-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_bias_and_no_tie [hPre_no_bias_and_no_tie : Cert.Pre_no_bias_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_bias_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_no_bias_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_no_bias_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_bias_and_no_tie [hPre_no_bias_and_no_tie : Cert.Pre_no_bias_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_bias_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_no_bias_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_no_bias_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_bias_and_no_tie [hKernelIdeal : Cert.KernelIdeal.Facts] [hPre_no_bias_and_no_tie : Cert.Pre_no_bias_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_bias_and_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_bias_and_no_tie [hReferenceIdeal : Cert.ReferenceIdeal.Facts] [hPre_no_bias_and_no_tie : Cert.Pre_no_bias_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_bias_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_bias_and_no_tie [hKernelIdeal : Cert.KernelIdeal.Facts] [hReferenceIdeal : Cert.ReferenceIdeal.Facts] [hPre_no_bias_and_no_tie : Cert.Pre_no_bias_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_bias_and_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_bias_and_no_tie : Cert.Pre_no_bias_and_no_tie.Facts),
    quiescent_Kernel (hKernel := hKernel)
    ∧ quiescent_KernelIdeal (hKernelIdeal := hKernelIdeal)
    ∧ quiescent_KernelIdeal_pre_no_bias_and_no_tie (hKernelIdeal := hKernelIdeal) (hPre_no_bias_and_no_tie := hPre_no_bias_and_no_tie)
    ∧ quiescent_ReferenceIdeal (hReferenceIdeal := hReferenceIdeal)
    ∧ quiescent_ReferenceIdeal_pre_no_bias_and_no_tie (hReferenceIdeal := hReferenceIdeal) (hPre_no_bias_and_no_tie := hPre_no_bias_and_no_tie)
    ∧ preserves_Kernel_KernelIdeal
    ∧ algebraic_KernelIdeal_ReferenceIdeal_pre_no_bias_and_no_tie (hKernelIdeal := hKernelIdeal) (hReferenceIdeal := hReferenceIdeal) (hPre_no_bias_and_no_tie := hPre_no_bias_and_no_tie)
-- ==== Pre_no_bias_and_no_tie.lean ====
abbrev S128x321x720 : Shape := ⟨3, ![128, 321, 720]⟩
abbrev S16x1 : Shape := ⟨2, ![16, 1]⟩
abbrev S16 : Shape := ⟨1, ![16]⟩
abbrev S1x16 : Shape := ⟨2, ![1, 16]⟩
abbrev S1 : Shape := ⟨1, ![1]⟩
abbrev S720 : Shape := ⟨1, ![720]⟩
abbrev S41088x720 : Shape := ⟨2, ![41088, 720]⟩
abbrev S720x361 : Shape := ⟨2, ![720, 361]⟩
abbrev S_ : Shape := ⟨0, ![]⟩
abbrev S720x361x1 : Shape := ⟨3, ![720, 361, 1]⟩
abbrev S41088x361 : Shape := ⟨2, ![41088, 361]⟩
abbrev S41088x37 : Shape := ⟨2, ![41088, 37]⟩
abbrev S41088x36 : Shape := ⟨2, ![41088, 36]⟩

class Facts : Prop where
  shapeCasts_S128x321x720_S41088x720 : S128x321x720.ShapeCasts S41088x720
  bcast_S_S720x361 : S_.BroadcastsInDim S720x361 (![] : Fin 0 → Fin S720x361.rank)
  bcast_S720x361_S720x361x1_0_1 : S720x361.BroadcastsInDim S720x361x1 (![0, 1] : Fin 2 → Fin S720x361x1.rank)
  sliceFits_S41088x361_S41088x37 : S41088x361.Slices (fun _ => 0) S41088x37
  bcast_S_S16 : S_.BroadcastsInDim S16 (![] : Fin 0 → Fin S16.rank)
  reducesTo_S16_S_d0 : S16.ReducesTo [0] S_
  h_S_ : 0 < S_.numel
  bcast_S_S1 : S_.BroadcastsInDim S1 (![] : Fin 0 → Fin S1.rank)
  reducesTo_S1_S_d0 : S1.ReducesTo [0] S_
  slices_S41088x37_S41088x36_0_0 : S41088x37.Slices ![0, 0] S41088x36
  slices_S41088x37_S41088x36_0_1 : S41088x37.Slices ![0, 1] S41088x36
  reducesTo_S41088x36_S_d0_1 : S41088x36.ReducesTo [0, 1] S_
  gather_S720_S720x361x1_S720x361_n_0_n_n_0_2_1_wf : GatherDims.WF S720 S720x361x1 S720x361 [] [0] [] [0] [] 2 ![1]
  dot_S41088x720_S720x361_S41088x361_1_0_0_1_n_n_wf : DotDims.WF S41088x720 S720x361 S41088x361 [1] [0] [0] [1] [] []

variable [Facts]

def gather_S720_S720x361x1_S720x361_n_0_n_n_0_2_1 : GatherDims S720 S720x361x1 S720x361 where
  offsetDims := []
  collapsedSliceDims := [0]
  operandBatchingDims := []
  startIndicesBatchingDims := []
  startIndexMap := [0]
  indexVectorDim := 2
  sliceSizes := ![1]
  wf := gather_S720_S720x361x1_S720x361_n_0_n_n_0_2_1_wf
def dot_S41088x720_S720x361_S41088x361_1_0_0_1_n_n : DotDims S41088x720 S720x361 S41088x361 where
  lhsContracting := [1]
  rhsContracting := [0]
  lhsNonContracting := [0]
  rhsNonContracting := [1]
  lhsBatch := []
  rhsBatch := []
  wf := dot_S41088x720_S720x361_S41088x361_1_0_0_1_n_n_wf

noncomputable abbrev lit0t0_0 (i : Nat) : BitVec 32 := match i % 128 with
  | 0 => 0x3F800000#32
  | 1 => 0x3F7FFD81#32
  | 2 => 0x3F7FF605#32
  | 3 => 0x3F7FE98B#32
  | 4 => 0x3F7FD814#32
  | 5 => 0x3F7FC1A0#32
  | 6 => 0x3F7FA62F#32
  | 7 => 0x3F7F85C3#32
  | 8 => 0x3F7F605C#32
  | 9 => 0x3F7F35F9#32
  | 10 => 0x3F7F069E#32
  | 11 => 0x3F7ED249#32
  | 12 => 0x3F7E98FD#32
  | 13 => 0x3F7E5ABA#32
  | 14 => 0x3F7E1781#32
  | 15 => 0x3F7DCF55#32
  | 16 => 0x3F7D8235#32
  | 17 => 0x3F7D3025#32
  | 18 => 0x3F7CD925#32
  | 19 => 0x3F7C7D37#32
  | 20 => 0x3F7C1C5C#32
  | 21 => 0x3F7BB698#32
  | 22 => 0x3F7B4BEB#32
  | 23 => 0x3F7ADC58#32
  | 24 => 0x3F7A67E2#32
  | 25 => 0x3F79EE89#32
  | 26 => 0x3F797051#32
  | 27 => 0x3F78ED3C#32
  | 28 => 0x3F78654D#32
  | 29 => 0x3F77D886#32
  | 30 => 0x3F7746EA#32
  | 31 => 0x3F76B07C#32
  | 32 => 0x3F76153F#32
  | 33 => 0x3F757536#32
  | 34 => 0x3F74D063#32
  | 35 => 0x3F7426CB#32
  | 36 => 0x3F737871#32
  | 37 => 0x3F72C557#32
  | 38 => 0x3F720D81#32
  | 39 => 0x3F7150F4#32
  | 40 => 0x3F708FB2#32
  | 41 => 0x3F6FC9C0#32
  | 42 => 0x3F6EFF20#32
  | 43 => 0x3F6E2FD9#32
  | 44 => 0x3F6D5BEC#32
  | 45 => 0x3F6C835E#32
  | 46 => 0x3F6BA635#32
  | 47 => 0x3F6AC473#32
  | 48 => 0x3F69DE1D#32
  | 49 => 0x3F68F339#32
  | 50 => 0x3F6803CA#32
  | 51 => 0x3F670FD4#32
  | 52 => 0x3F66175E#32
  | 53 => 0x3F651A6B#32
  | 54 => 0x3F641901#32
  | 55 => 0x3F631324#32
  | 56 => 0x3F6208DA#32
  | 57 => 0x3F60FA29#32
  | 58 => 0x3F5FE714#32
  | 59 => 0x3F5ECFA2#32
  | 60 => 0x3F5DB3D7#32
  | 61 => 0x3F5C93BB#32
  | 62 => 0x3F5B6F51#32
  | 63 => 0x3F5A46A0#32
  | 64 => 0x3F5919AE#32
  | 65 => 0x3F57E880#32
  | 66 => 0x3F56B31D#32
  | 67 => 0x3F55798B#32
  | 68 => 0x3F543BCE#32
  | 69 => 0x3F52F9EF#32
  | 70 => 0x3F51B3F3#32
  | 71 => 0x3F5069E0#32
  | 72 => 0x3F4F1BBD#32
  | 73 => 0x3F4DC990#32
  | 74 => 0x3F4C7360#32
  | 75 => 0x3F4B1934#32
  | 76 => 0x3F49BB13#32
  | 77 => 0x3F485902#32
  | 78 => 0x3F46F30A#32
  | 79 => 0x3F458930#32
  | 80 => 0x3F441B7D#32
  | 81 => 0x3F42A9F7#32
  | 82 => 0x3F4134A6#32
  | 83 => 0x3F3FBB90#32
  | 84 => 0x3F3E3EBD#32
  | 85 => 0x3F3CBE35#32
  | 86 => 0x3F3B39FF#32
  | 87 => 0x3F39B223#32
  | 88 => 0x3F3826A7#32
  | 89 => 0x3F369795#32
  | 90 => 0x3F3504F3#32
  | 91 => 0x3F336ECA#32
  | 92 => 0x3F31D522#32
  | 93 => 0x3F303801#32
  | 94 => 0x3F2E9772#32
  | 95 => 0x3F2CF37B#32
  | 96 => 0x3F2B4C25#32
  | 97 => 0x3F29A178#32
  | 98 => 0x3F27F37C#32
  | 99 => 0x3F26423A#32
  | 100 => 0x3F248DBB#32
  | 101 => 0x3F22D606#32
  | 102 => 0x3F211B24#32
  | 103 => 0x3F1F5D1F#32
  | 104 => 0x3F1D9BFE#32
  | 105 => 0x3F1BD7CA#32
  | 106 => 0x3F1A108D#32
  | 107 => 0x3F18464E#32
  | 108 => 0x3F167918#32
  | 109 => 0x3F14A8F3#32
  | 110 => 0x3F12D5E8#32
  | 111 => 0x3F110000#32
  | 112 => 0x3F0F2744#32
  | 113 => 0x3F0D4BBE#32
  | 114 => 0x3F0B6D77#32
  | 115 => 0x3F098C78#32
  | 116 => 0x3F07A8CA#32
  | 117 => 0x3F05C277#32
  | 118 => 0x3F03D989#32
  | 119 => 0x3F01EE09#32
  | 120 => 0x3F000000#32
  | 121 => 0x3EFC1EF1#32
  | 122 => 0x3EF838F7#32
  | 123 => 0x3EF44E27#32
  | 124 => 0x3EF05E94#32
  | 125 => 0x3EEC6A50#32
  | 126 => 0x3EE87171#32
  | 127 => 0x3EE4740A#32
  | _ => 0#32

noncomputable abbrev lit0t0_1 (i : Nat) : BitVec 32 := match i % 128 with
  | 0 => 0x3EE0722F#32
  | 1 => 0x3EDC6BF3#32
  | 2 => 0x3ED8616C#32
  | 3 => 0x3ED452AC#32
  | 4 => 0x3ED03FC9#32
  | 5 => 0x3ECC28D7#32
  | 6 => 0x3EC80DE9#32
  | 7 => 0x3EC3EF15#32
  | 8 => 0x3EBFCC6F#32
  | 9 => 0x3EBBA60C#32
  | 10 => 0x3EB77C01#32
  | 11 => 0x3EB34E62#32
  | 12 => 0x3EAF1D44#32
  | 13 => 0x3EAAE8BC#32
  | 14 => 0x3EA6B0DF#32
  | 15 => 0x3EA275C2#32
  | 16 => 0x3E9E377A#32
  | 17 => 0x3E99F61C#32
  | 18 => 0x3E95B1BE#32
  | 19 => 0x3E916A76#32
  | 20 => 0x3E8D2057#32
  | 21 => 0x3E88D378#32
  | 22 => 0x3E8483EE#32
  | 23 => 0x3E8031CF#32
  | 24 => 0x3E77BA60#32
  | 25 => 0x3E6F0C4D#32
  | 26 => 0x3E665992#32
  | 27 => 0x3E5DA259#32
  | 28 => 0x3E54E6CD#32
  | 29 => 0x3E4C271C#32
  | 30 => 0x3E43636F#32
  | 31 => 0x3E3A9BF3#32
  | 32 => 0x3E31D0D4#32
  | 33 => 0x3E29023D#32
  | 34 => 0x3E20305B#32
  | 35 => 0x3E175B5A#32
  | 36 => 0x3E0E8365#32
  | 37 => 0x3E05A8A8#32
  | 38 => 0x3DF996A2#32
  | 39 => 0x3DE7D716#32
  | 40 => 0x3DD61305#32
  | 41 => 0x3DC44AC7#32
  | 42 => 0x3DB27EB6#32
  | 43 => 0x3DA0AF2A#32
  | 44 => 0x3D8EDC7B#32
  | 45 => 0x3D7A0E09#32
  | 46 => 0x3D565E3A#32
  | 47 => 0x3D32AA3E#32
  | 48 => 0x3D0EF2C6#32
  | 49 => 0x3CD6710A#32
  | 50 => 0x3C8EF859#32
  | 51 => 0x3C0EF9BE#32
  | 52 => 0x248D3132#32
  | 53 => 0xBC0EF9BE#32
  | 54 => 0xBC8EF859#32
  | 55 => 0xBCD6710A#32
  | 56 => 0xBD0EF2C6#32
  | 57 => 0xBD32AA3E#32
  | 58 => 0xBD565E3A#32
  | 59 => 0xBD7A0E09#32
  | 60 => 0xBD8EDC7B#32
  | 61 => 0xBDA0AF2A#32
  | 62 => 0xBDB27EB6#32
  | 63 => 0xBDC44AC7#32
  | 64 => 0xBDD61305#32
  | 65 => 0xBDE7D716#32
  | 66 => 0xBDF996A2#32
  | 67 => 0xBE05A8A8#32
  | 68 => 0xBE0E8365#32
  | 69 => 0xBE175B5A#32
  | 70 => 0xBE20305B#32
  | 71 => 0xBE29023D#32
  | 72 => 0xBE31D0D4#32
  | 73 => 0xBE3A9BF3#32
  | 74 => 0xBE43636F#32
  | 75 => 0xBE4C271C#32
  | 76 => 0xBE54E6CD#32
  | 77 => 0xBE5DA259#32
  | 78 => 0xBE665992#32
  | 79 => 0xBE6F0C4D#32
  | 80 => 0xBE77BA60#32
  | 81 => 0xBE8031CF#32
  | 82 => 0xBE8483EE#32
  | 83 => 0xBE88D378#32
  | 84 => 0xBE8D2057#32
  | 85 => 0xBE916A76#32
  | 86 => 0xBE95B1BE#32
  | 87 => 0xBE99F61C#32
  | 88 => 0xBE9E377A#32
  | 89 => 0xBEA275C2#32
  | 90 => 0xBEA6B0DF#32
  | 91 => 0xBEAAE8BC#32
  | 92 => 0xBEAF1D44#32
  | 93 => 0xBEB34E62#32
  | 94 => 0xBEB77C01#32
  | 95 => 0xBEBBA60C#32
  | 96 => 0xBEBFCC6F#32
  | 97 => 0xBEC3EF15#32
  | 98 => 0xBEC80DE9#32
  | 99 => 0xBECC28D7#32
  | 100 => 0xBED03FC9#32
  | 101 => 0xBED452AC#32
  | 102 => 0xBED8616C#32
  | 103 => 0xBEDC6BF3#32
  | 104 => 0xBEE0722F#32
  | 105 => 0xBEE4740A#32
  | 106 => 0xBEE87171#32
  | 107 => 0xBEEC6A50#32
  | 108 => 0xBEF05E94#32
  | 109 => 0xBEF44E27#32
  | 110 => 0xBEF838F7#32
  | 111 => 0xBEFC1EF1#32
  | 112 => 0xBF000000#32
  | 113 => 0xBF01EE09#32
  | 114 => 0xBF03D989#32
  | 115 => 0xBF05C277#32
  | 116 => 0xBF07A8CA#32
  | 117 => 0xBF098C78#32
  | 118 => 0xBF0B6D77#32
  | 119 => 0xBF0D4BBE#32
  | 120 => 0xBF0F2744#32
  | 121 => 0xBF110000#32
  | 122 => 0xBF12D5E8#32
  | 123 => 0xBF14A8F3#32
  | 124 => 0xBF167918#32
  | 125 => 0xBF18464E#32
  | 126 => 0xBF1A108D#32
  | 127 => 0xBF1BD7CA#32
  | _ => 0#32

noncomputable abbrev lit0t0_2 (i : Nat) : BitVec 32 := match i % 128 with
  | 0 => 0xBF1D9BFE#32
  | 1 => 0xBF1F5D1F#32
  | 2 => 0xBF211B24#32
  | 3 => 0xBF22D606#32
  | 4 => 0xBF248DBB#32
  | 5 => 0xBF26423A#32
  | 6 => 0xBF27F37C#32
  | 7 => 0xBF29A178#32
  | 8 => 0xBF2B4C25#32
  | 9 => 0xBF2CF37B#32
  | 10 => 0xBF2E9772#32
  | 11 => 0xBF303801#32
  | 12 => 0xBF31D522#32
  | 13 => 0xBF336ECA#32
  | 14 => 0xBF3504F3#32
  | 15 => 0xBF369795#32
  | 16 => 0xBF3826A7#32
  | 17 => 0xBF39B223#32
  | 18 => 0xBF3B39FF#32
  | 19 => 0xBF3CBE35#32
  | 20 => 0xBF3E3EBD#32
  | 21 => 0xBF3FBB90#32
  | 22 => 0xBF4134A6#32
  | 23 => 0xBF42A9F7#32
  | 24 => 0xBF441B7D#32
  | 25 => 0xBF458930#32
  | 26 => 0xBF46F30A#32
  | 27 => 0xBF485902#32
  | 28 => 0xBF49BB13#32
  | 29 => 0xBF4B1934#32
  | 30 => 0xBF4C7360#32
  | 31 => 0xBF4DC990#32
  | 32 => 0xBF4F1BBD#32
  | 33 => 0xBF5069E0#32
  | 34 => 0xBF51B3F3#32
  | 35 => 0xBF52F9EF#32
  | 36 => 0xBF543BCE#32
  | 37 => 0xBF55798B#32
  | 38 => 0xBF56B31D#32
  | 39 => 0xBF57E880#32
  | 40 => 0xBF5919AE#32
  | 41 => 0xBF5A46A0#32
  | 42 => 0xBF5B6F51#32
  | 43 => 0xBF5C93BB#32
  | 44 => 0xBF5DB3D7#32
  | 45 => 0xBF5ECFA2#32
  | 46 => 0xBF5FE714#32
  | 47 => 0xBF60FA29#32
  | 48 => 0xBF6208DA#32
  | 49 => 0xBF631324#32
  | 50 => 0xBF641901#32
  | 51 => 0xBF651A6B#32
  | 52 => 0xBF66175E#32
  | 53 => 0xBF670FD4#32
  | 54 => 0xBF6803CA#32
  | 55 => 0xBF68F339#32
  | 56 => 0xBF69DE1D#32
  | 57 => 0xBF6AC473#32
  | 58 => 0xBF6BA635#32
  | 59 => 0xBF6C835E#32
  | 60 => 0xBF6D5BEC#32
  | 61 => 0xBF6E2FD9#32
  | 62 => 0xBF6EFF20#32
  | 63 => 0xBF6FC9C0#32
  | 64 => 0xBF708FB2#32
  | 65 => 0xBF7150F4#32
  | 66 => 0xBF720D81#32
  | 67 => 0xBF72C557#32
  | 68 => 0xBF737871#32
  | 69 => 0xBF7426CB#32
  | 70 => 0xBF74D063#32
  | 71 => 0xBF757536#32
  | 72 => 0xBF76153F#32
  | 73 => 0xBF76B07C#32
  | 74 => 0xBF7746EA#32
  | 75 => 0xBF77D886#32
  | 76 => 0xBF78654D#32
  | 77 => 0xBF78ED3C#32
  | 78 => 0xBF797051#32
  | 79 => 0xBF79EE89#32
  | 80 => 0xBF7A67E2#32
  | 81 => 0xBF7ADC58#32
  | 82 => 0xBF7B4BEB#32
  | 83 => 0xBF7BB698#32
  | 84 => 0xBF7C1C5C#32
  | 85 => 0xBF7C7D37#32
  | 86 => 0xBF7CD925#32
  | 87 => 0xBF7D3025#32
  | 88 => 0xBF7D8235#32
  | 89 => 0xBF7DCF55#32
  | 90 => 0xBF7E1781#32
  | 91 => 0xBF7E5ABA#32
  | 92 => 0xBF7E98FD#32
  | 93 => 0xBF7ED249#32
  | 94 => 0xBF7F069E#32
  | 95 => 0xBF7F35F9#32
  | 96 => 0xBF7F605C#32
  | 97 => 0xBF7F85C3#32
  | 98 => 0xBF7FA62F#32
  | 99 => 0xBF7FC1A0#32
  | 100 => 0xBF7FD814#32
  | 101 => 0xBF7FE98B#32
  | 102 => 0xBF7FF605#32
  | 103 => 0xBF7FFD81#32
  | 104 => 0xBF800000#32
  | 105 => 0xBF7FFD81#32
  | 106 => 0xBF7FF605#32
  | 107 => 0xBF7FE98B#32
  | 108 => 0xBF7FD814#32
  | 109 => 0xBF7FC1A0#32
  | 110 => 0xBF7FA62F#32
  | 111 => 0xBF7F85C3#32
  | 112 => 0xBF7F605C#32
  | 113 => 0xBF7F35F9#32
  | 114 => 0xBF7F069E#32
  | 115 => 0xBF7ED249#32
  | 116 => 0xBF7E98FD#32
  | 117 => 0xBF7E5ABA#32
  | 118 => 0xBF7E1781#32
  | 119 => 0xBF7DCF55#32
  | 120 => 0xBF7D8235#32
  | 121 => 0xBF7D3025#32
  | 122 => 0xBF7CD925#32
  | 123 => 0xBF7C7D37#32
  | 124 => 0xBF7C1C5C#32
  | 125 => 0xBF7BB698#32
  | 126 => 0xBF7B4BEB#32
  | 127 => 0xBF7ADC58#32
  | _ => 0#32

noncomputable abbrev lit0t0_3 (i : Nat) : BitVec 32 := match i % 128 with
  | 0 => 0xBF7A67E2#32
  | 1 => 0xBF79EE89#32
  | 2 => 0xBF797051#32
  | 3 => 0xBF78ED3C#32
  | 4 => 0xBF78654D#32
  | 5 => 0xBF77D886#32
  | 6 => 0xBF7746EA#32
  | 7 => 0xBF76B07C#32
  | 8 => 0xBF76153F#32
  | 9 => 0xBF757536#32
  | 10 => 0xBF74D063#32
  | 11 => 0xBF7426CB#32
  | 12 => 0xBF737871#32
  | 13 => 0xBF72C557#32
  | 14 => 0xBF720D81#32
  | 15 => 0xBF7150F4#32
  | 16 => 0xBF708FB2#32
  | 17 => 0xBF6FC9C0#32
  | 18 => 0xBF6EFF20#32
  | 19 => 0xBF6E2FD9#32
  | 20 => 0xBF6D5BEC#32
  | 21 => 0xBF6C835E#32
  | 22 => 0xBF6BA635#32
  | 23 => 0xBF6AC473#32
  | 24 => 0xBF69DE1D#32
  | 25 => 0xBF68F339#32
  | 26 => 0xBF6803CA#32
  | 27 => 0xBF670FD4#32
  | 28 => 0xBF66175E#32
  | 29 => 0xBF651A6B#32
  | 30 => 0xBF641901#32
  | 31 => 0xBF631324#32
  | 32 => 0xBF6208DA#32
  | 33 => 0xBF60FA29#32
  | 34 => 0xBF5FE714#32
  | 35 => 0xBF5ECFA2#32
  | 36 => 0xBF5DB3D7#32
  | 37 => 0xBF5C93BB#32
  | 38 => 0xBF5B6F51#32
  | 39 => 0xBF5A46A0#32
  | 40 => 0xBF5919AE#32
  | 41 => 0xBF57E880#32
  | 42 => 0xBF56B31D#32
  | 43 => 0xBF55798B#32
  | 44 => 0xBF543BCE#32
  | 45 => 0xBF52F9EF#32
  | 46 => 0xBF51B3F3#32
  | 47 => 0xBF5069E0#32
  | 48 => 0xBF4F1BBD#32
  | 49 => 0xBF4DC990#32
  | 50 => 0xBF4C7360#32
  | 51 => 0xBF4B1934#32
  | 52 => 0xBF49BB13#32
  | 53 => 0xBF485902#32
  | 54 => 0xBF46F30A#32
  | 55 => 0xBF458930#32
  | 56 => 0xBF441B7D#32
  | 57 => 0xBF42A9F7#32
  | 58 => 0xBF4134A6#32
  | 59 => 0xBF3FBB90#32
  | 60 => 0xBF3E3EBD#32
  | 61 => 0xBF3CBE35#32
  | 62 => 0xBF3B39FF#32
  | 63 => 0xBF39B223#32
  | 64 => 0xBF3826A7#32
  | 65 => 0xBF369795#32
  | 66 => 0xBF3504F3#32
  | 67 => 0xBF336ECA#32
  | 68 => 0xBF31D522#32
  | 69 => 0xBF303801#32
  | 70 => 0xBF2E9772#32
  | 71 => 0xBF2CF37B#32
  | 72 => 0xBF2B4C25#32
  | 73 => 0xBF29A178#32
  | 74 => 0xBF27F37C#32
  | 75 => 0xBF26423A#32
  | 76 => 0xBF248DBB#32
  | 77 => 0xBF22D606#32
  | 78 => 0xBF211B24#32
  | 79 => 0xBF1F5D1F#32
  | 80 => 0xBF1D9BFE#32
  | 81 => 0xBF1BD7CA#32
  | 82 => 0xBF1A108D#32
  | 83 => 0xBF18464E#32
  | 84 => 0xBF167918#32
  | 85 => 0xBF14A8F3#32
  | 86 => 0xBF12D5E8#32
  | 87 => 0xBF110000#32
  | 88 => 0xBF0F2744#32
  | 89 => 0xBF0D4BBE#32
  | 90 => 0xBF0B6D77#32
  | 91 => 0xBF098C78#32
  | 92 => 0xBF07A8CA#32
  | 93 => 0xBF05C277#32
  | 94 => 0xBF03D989#32
  | 95 => 0xBF01EE09#32
  | 96 => 0xBF000000#32
  | 97 => 0xBEFC1EF1#32
  | 98 => 0xBEF838F7#32
  | 99 => 0xBEF44E27#32
  | 100 => 0xBEF05E94#32
  | 101 => 0xBEEC6A50#32
  | 102 => 0xBEE87171#32
  | 103 => 0xBEE4740A#32
  | 104 => 0xBEE0722F#32
  | 105 => 0xBEDC6BF3#32
  | 106 => 0xBED8616C#32
  | 107 => 0xBED452AC#32
  | 108 => 0xBED03FC9#32
  | 109 => 0xBECC28D7#32
  | 110 => 0xBEC80DE9#32
  | 111 => 0xBEC3EF15#32
  | 112 => 0xBEBFCC6F#32
  | 113 => 0xBEBBA60C#32
  | 114 => 0xBEB77C01#32
  | 115 => 0xBEB34E62#32
  | 116 => 0xBEAF1D44#32
  | 117 => 0xBEAAE8BC#32
  | 118 => 0xBEA6B0DF#32
  | 119 => 0xBEA275C2#32
  | 120 => 0xBE9E377A#32
  | 121 => 0xBE99F61C#32
  | 122 => 0xBE95B1BE#32
  | 123 => 0xBE916A76#32
  | 124 => 0xBE8D2057#32
  | 125 => 0xBE88D378#32
  | 126 => 0xBE8483EE#32
  | 127 => 0xBE8031CF#32
  | _ => 0#32

noncomputable abbrev lit0t0_4 (i : Nat) : BitVec 32 := match i % 128 with
  | 0 => 0xBE77BA60#32
  | 1 => 0xBE6F0C4D#32
  | 2 => 0xBE665992#32
  | 3 => 0xBE5DA259#32
  | 4 => 0xBE54E6CD#32
  | 5 => 0xBE4C271C#32
  | 6 => 0xBE43636F#32
  | 7 => 0xBE3A9BF3#32
  | 8 => 0xBE31D0D4#32
  | 9 => 0xBE29023D#32
  | 10 => 0xBE20305B#32
  | 11 => 0xBE175B5A#32
  | 12 => 0xBE0E8365#32
  | 13 => 0xBE05A8A8#32
  | 14 => 0xBDF996A2#32
  | 15 => 0xBDE7D716#32
  | 16 => 0xBDD61305#32
  | 17 => 0xBDC44AC7#32
  | 18 => 0xBDB27EB6#32
  | 19 => 0xBDA0AF2A#32
  | 20 => 0xBD8EDC7B#32
  | 21 => 0xBD7A0E09#32
  | 22 => 0xBD565E3A#32
  | 23 => 0xBD32AA3E#32
  | 24 => 0xBD0EF2C6#32
  | 25 => 0xBCD6710A#32
  | 26 => 0xBC8EF859#32
  | 27 => 0xBC0EF9BE#32
  | 28 => 0xA553C9CA#32
  | 29 => 0x3C0EF9BE#32
  | 30 => 0x3C8EF859#32
  | 31 => 0x3CD6710A#32
  | 32 => 0x3D0EF2C6#32
  | 33 => 0x3D32AA3E#32
  | 34 => 0x3D565E3A#32
  | 35 => 0x3D7A0E09#32
  | 36 => 0x3D8EDC7B#32
  | 37 => 0x3DA0AF2A#32
  | 38 => 0x3DB27EB6#32
  | 39 => 0x3DC44AC7#32
  | 40 => 0x3DD61305#32
  | 41 => 0x3DE7D716#32
  | 42 => 0x3DF996A2#32
  | 43 => 0x3E05A8A8#32
  | 44 => 0x3E0E8365#32
  | 45 => 0x3E175B5A#32
  | 46 => 0x3E20305B#32
  | 47 => 0x3E29023D#32
  | 48 => 0x3E31D0D4#32
  | 49 => 0x3E3A9BF3#32
  | 50 => 0x3E43636F#32
  | 51 => 0x3E4C271C#32
  | 52 => 0x3E54E6CD#32
  | 53 => 0x3E5DA259#32
  | 54 => 0x3E665992#32
  | 55 => 0x3E6F0C4D#32
  | 56 => 0x3E77BA60#32
  | 57 => 0x3E8031CF#32
  | 58 => 0x3E8483EE#32
  | 59 => 0x3E88D378#32
  | 60 => 0x3E8D2057#32
  | 61 => 0x3E916A76#32
  | 62 => 0x3E95B1BE#32
  | 63 => 0x3E99F61C#32
  | 64 => 0x3E9E377A#32
  | 65 => 0x3EA275C2#32
  | 66 => 0x3EA6B0DF#32
  | 67 => 0x3EAAE8BC#32
  | 68 => 0x3EAF1D44#32
  | 69 => 0x3EB34E62#32
  | 70 => 0x3EB77C01#32
  | 71 => 0x3EBBA60C#32
  | 72 => 0x3EBFCC6F#32
  | 73 => 0x3EC3EF15#32
  | 74 => 0x3EC80DE9#32
  | 75 => 0x3ECC28D7#32
  | 76 => 0x3ED03FC9#32
  | 77 => 0x3ED452AC#32
  | 78 => 0x3ED8616C#32
  | 79 => 0x3EDC6BF3#32
  | 80 => 0x3EE0722F#32
  | 81 => 0x3EE4740A#32
  | 82 => 0x3EE87171#32
  | 83 => 0x3EEC6A50#32
  | 84 => 0x3EF05E94#32
  | 85 => 0x3EF44E27#32
  | 86 => 0x3EF838F7#32
  | 87 => 0x3EFC1EF1#32
  | 88 => 0x3F000000#32
  | 89 => 0x3F01EE09#32
  | 90 => 0x3F03D989#32
  | 91 => 0x3F05C277#32
  | 92 => 0x3F07A8CA#32
  | 93 => 0x3F098C78#32
  | 94 => 0x3F0B6D77#32
  | 95 => 0x3F0D4BBE#32
  | 96 => 0x3F0F2744#32
  | 97 => 0x3F110000#32
  | 98 => 0x3F12D5E8#32
  | 99 => 0x3F14A8F3#32
  | 100 => 0x3F167918#32
  | 101 => 0x3F18464E#32
  | 102 => 0x3F1A108D#32
  | 103 => 0x3F1BD7CA#32
  | 104 => 0x3F1D9BFE#32
  | 105 => 0x3F1F5D1F#32
  | 106 => 0x3F211B24#32
  | 107 => 0x3F22D606#32
  | 108 => 0x3F248DBB#32
  | 109 => 0x3F26423A#32
  | 110 => 0x3F27F37C#32
  | 111 => 0x3F29A178#32
  | 112 => 0x3F2B4C25#32
  | 113 => 0x3F2CF37B#32
  | 114 => 0x3F2E9772#32
  | 115 => 0x3F303801#32
  | 116 => 0x3F31D522#32
  | 117 => 0x3F336ECA#32
  | 118 => 0x3F3504F3#32
  | 119 => 0x3F369795#32
  | 120 => 0x3F3826A7#32
  | 121 => 0x3F39B223#32
  | 122 => 0x3F3B39FF#32
  | 123 => 0x3F3CBE35#32
  | 124 => 0x3F3E3EBD#32
  | 125 => 0x3F3FBB90#32
  | 126 => 0x3F4134A6#32
  | 127 => 0x3F42A9F7#32
  | _ => 0#32

noncomputable abbrev lit0t0_5 (i : Nat) : BitVec 32 := match i % 128 with
  | 0 => 0x3F441B7D#32
  | 1 => 0x3F458930#32
  | 2 => 0x3F46F30A#32
  | 3 => 0x3F485902#32
  | 4 => 0x3F49BB13#32
  | 5 => 0x3F4B1934#32
  | 6 => 0x3F4C7360#32
  | 7 => 0x3F4DC990#32
  | 8 => 0x3F4F1BBD#32
  | 9 => 0x3F5069E0#32
  | 10 => 0x3F51B3F3#32
  | 11 => 0x3F52F9EF#32
  | 12 => 0x3F543BCE#32
  | 13 => 0x3F55798B#32
  | 14 => 0x3F56B31D#32
  | 15 => 0x3F57E880#32
  | 16 => 0x3F5919AE#32
  | 17 => 0x3F5A46A0#32
  | 18 => 0x3F5B6F51#32
  | 19 => 0x3F5C93BB#32
  | 20 => 0x3F5DB3D7#32
  | 21 => 0x3F5ECFA2#32
  | 22 => 0x3F5FE714#32
  | 23 => 0x3F60FA29#32
  | 24 => 0x3F6208DA#32
  | 25 => 0x3F631324#32
  | 26 => 0x3F641901#32
  | 27 => 0x3F651A6B#32
  | 28 => 0x3F66175E#32
  | 29 => 0x3F670FD4#32
  | 30 => 0x3F6803CA#32
  | 31 => 0x3F68F339#32
  | 32 => 0x3F69DE1D#32
  | 33 => 0x3F6AC473#32
  | 34 => 0x3F6BA635#32
  | 35 => 0x3F6C835E#32
  | 36 => 0x3F6D5BEC#32
  | 37 => 0x3F6E2FD9#32
  | 38 => 0x3F6EFF20#32
  | 39 => 0x3F6FC9C0#32
  | 40 => 0x3F708FB2#32
  | 41 => 0x3F7150F4#32
  | 42 => 0x3F720D81#32
  | 43 => 0x3F72C557#32
  | 44 => 0x3F737871#32
  | 45 => 0x3F7426CB#32
  | 46 => 0x3F74D063#32
  | 47 => 0x3F757536#32
  | 48 => 0x3F76153F#32
  | 49 => 0x3F76B07C#32
  | 50 => 0x3F7746EA#32
  | 51 => 0x3F77D886#32
  | 52 => 0x3F78654D#32
  | 53 => 0x3F78ED3C#32
  | 54 => 0x3F797051#32
  | 55 => 0x3F79EE89#32
  | 56 => 0x3F7A67E2#32
  | 57 => 0x3F7ADC58#32
  | 58 => 0x3F7B4BEB#32
  | 59 => 0x3F7BB698#32
  | 60 => 0x3F7C1C5C#32
  | 61 => 0x3F7C7D37#32
  | 62 => 0x3F7CD925#32
  | 63 => 0x3F7D3025#32
  | 64 => 0x3F7D8235#32
  | 65 => 0x3F7DCF55#32
  | 66 => 0x3F7E1781#32
  | 67 => 0x3F7E5ABA#32
  | 68 => 0x3F7E98FD#32
  | 69 => 0x3F7ED249#32
  | 70 => 0x3F7F069E#32
  | 71 => 0x3F7F35F9#32
  | 72 => 0x3F7F605C#32
  | 73 => 0x3F7F85C3#32
  | 74 => 0x3F7FA62F#32
  | 75 => 0x3F7FC1A0#32
  | 76 => 0x3F7FD814#32
  | 77 => 0x3F7FE98B#32
  | 78 => 0x3F7FF605#32
  | 79 => 0x3F7FFD81#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | _ => 0#32

noncomputable abbrev lit0 : Fin 720 → BitVec 32 := fun ⟨i, _⟩ => lit0t i

noncomputable abbrev lit1t0_0 (i : Nat) : BitVec 32 := match i % 128 with
  | 0 => 0x00000000#32
  | 1 => 0xBC0EF9BE#32
  | 2 => 0xBC8EF859#32
  | 3 => 0xBCD6710A#32
  | 4 => 0xBD0EF2C6#32
  | 5 => 0xBD32AA3E#32
  | 6 => 0xBD565E3A#32
  | 7 => 0xBD7A0E09#32
  | 8 => 0xBD8EDC7B#32
  | 9 => 0xBDA0AF2A#32
  | 10 => 0xBDB27EB6#32
  | 11 => 0xBDC44AC7#32
  | 12 => 0xBDD61305#32
  | 13 => 0xBDE7D716#32
  | 14 => 0xBDF996A2#32
  | 15 => 0xBE05A8A8#32
  | 16 => 0xBE0E8365#32
  | 17 => 0xBE175B5A#32
  | 18 => 0xBE20305B#32
  | 19 => 0xBE29023D#32
  | 20 => 0xBE31D0D4#32
  | 21 => 0xBE3A9BF3#32
  | 22 => 0xBE43636F#32
  | 23 => 0xBE4C271C#32
  | 24 => 0xBE54E6CD#32
  | 25 => 0xBE5DA259#32
  | 26 => 0xBE665992#32
  | 27 => 0xBE6F0C4D#32
  | 28 => 0xBE77BA60#32
  | 29 => 0xBE8031CF#32
  | 30 => 0xBE8483EE#32
  | 31 => 0xBE88D378#32
  | 32 => 0xBE8D2057#32
  | 33 => 0xBE916A76#32
  | 34 => 0xBE95B1BE#32
  | 35 => 0xBE99F61C#32
  | 36 => 0xBE9E377A#32
  | 37 => 0xBEA275C2#32
  | 38 => 0xBEA6B0DF#32
  | 39 => 0xBEAAE8BC#32
  | 40 => 0xBEAF1D44#32
  | 41 => 0xBEB34E62#32
  | 42 => 0xBEB77C01#32
  | 43 => 0xBEBBA60C#32
  | 44 => 0xBEBFCC6F#32
  | 45 => 0xBEC3EF15#32
  | 46 => 0xBEC80DE9#32
  | 47 => 0xBECC28D7#32
  | 48 => 0xBED03FC9#32
  | 49 => 0xBED452AC#32
  | 50 => 0xBED8616C#32
  | 51 => 0xBEDC6BF3#32
  | 52 => 0xBEE0722F#32
  | 53 => 0xBEE4740A#32
  | 54 => 0xBEE87171#32
  | 55 => 0xBEEC6A50#32
  | 56 => 0xBEF05E94#32
  | 57 => 0xBEF44E27#32
  | 58 => 0xBEF838F7#32
  | 59 => 0xBEFC1EF1#32
  | 60 => 0xBF000000#32
  | 61 => 0xBF01EE09#32
  | 62 => 0xBF03D989#32
  | 63 => 0xBF05C277#32
  | 64 => 0xBF07A8CA#32
  | 65 => 0xBF098C78#32
  | 66 => 0xBF0B6D77#32
  | 67 => 0xBF0D4BBE#32
  | 68 => 0xBF0F2744#32
  | 69 => 0xBF110000#32
  | 70 => 0xBF12D5E8#32
  | 71 => 0xBF14A8F3#32
  | 72 => 0xBF167918#32
  | 73 => 0xBF18464E#32
  | 74 => 0xBF1A108D#32
  | 75 => 0xBF1BD7CA#32
  | 76 => 0xBF1D9BFE#32
  | 77 => 0xBF1F5D1F#32
  | 78 => 0xBF211B24#32
  | 79 => 0xBF22D606#32
  | 80 => 0xBF248DBB#32
  | 81 => 0xBF26423A#32
  | 82 => 0xBF27F37C#32
  | 83 => 0xBF29A178#32
  | 84 => 0xBF2B4C25#32
  | 85 => 0xBF2CF37B#32
  | 86 => 0xBF2E9772#32
  | 87 => 0xBF303801#32
  | 88 => 0xBF31D522#32
  | 89 => 0xBF336ECA#32
  | 90 => 0xBF3504F3#32
  | 91 => 0xBF369795#32
  | 92 => 0xBF3826A7#32
  | 93 => 0xBF39B223#32
  | 94 => 0xBF3B39FF#32
  | 95 => 0xBF3CBE35#32
  | 96 => 0xBF3E3EBD#32
  | 97 => 0xBF3FBB90#32
  | 98 => 0xBF4134A6#32
  | 99 => 0xBF42A9F7#32
  | 100 => 0xBF441B7D#32
  | 101 => 0xBF458930#32
  | 102 => 0xBF46F30A#32
  | 103 => 0xBF485902#32
  | 104 => 0xBF49BB13#32
  | 105 => 0xBF4B1934#32
  | 106 => 0xBF4C7360#32
  | 107 => 0xBF4DC990#32
  | 108 => 0xBF4F1BBD#32
  | 109 => 0xBF5069E0#32
  | 110 => 0xBF51B3F3#32
  | 111 => 0xBF52F9EF#32
  | 112 => 0xBF543BCE#32
  | 113 => 0xBF55798B#32
  | 114 => 0xBF56B31D#32
  | 115 => 0xBF57E880#32
  | 116 => 0xBF5919AE#32
  | 117 => 0xBF5A46A0#32
  | 118 => 0xBF5B6F51#32
  | 119 => 0xBF5C93BB#32
  | 120 => 0xBF5DB3D7#32
  | 121 => 0xBF5ECFA2#32
  | 122 => 0xBF5FE714#32
  | 123 => 0xBF60FA29#32
  | 124 => 0xBF6208DA#32
  | 125 => 0xBF631324#32
  | 126 => 0xBF641901#32
  | 127 => 0xBF651A6B#32
  | _ => 0#32

noncomputable abbrev lit1t0_1 (i : Nat) : BitVec 32 := match i % 128 with
  | 0 => 0xBF66175E#32
  | 1 => 0xBF670FD4#32
  | 2 => 0xBF6803CA#32
  | 3 => 0xBF68F339#32
  | 4 => 0xBF69DE1D#32
  | 5 => 0xBF6AC473#32
  | 6 => 0xBF6BA635#32
  | 7 => 0xBF6C835E#32
  | 8 => 0xBF6D5BEC#32
  | 9 => 0xBF6E2FD9#32
  | 10 => 0xBF6EFF20#32
  | 11 => 0xBF6FC9C0#32
  | 12 => 0xBF708FB2#32
  | 13 => 0xBF7150F4#32
  | 14 => 0xBF720D81#32
  | 15 => 0xBF72C557#32
  | 16 => 0xBF737871#32
  | 17 => 0xBF7426CB#32
  | 18 => 0xBF74D063#32
  | 19 => 0xBF757536#32
  | 20 => 0xBF76153F#32
  | 21 => 0xBF76B07C#32
  | 22 => 0xBF7746EA#32
  | 23 => 0xBF77D886#32
  | 24 => 0xBF78654D#32
  | 25 => 0xBF78ED3C#32
  | 26 => 0xBF797051#32
  | 27 => 0xBF79EE89#32
  | 28 => 0xBF7A67E2#32
  | 29 => 0xBF7ADC58#32
  | 30 => 0xBF7B4BEB#32
  | 31 => 0xBF7BB698#32
  | 32 => 0xBF7C1C5C#32
  | 33 => 0xBF7C7D37#32
  | 34 => 0xBF7CD925#32
  | 35 => 0xBF7D3025#32
  | 36 => 0xBF7D8235#32
  | 37 => 0xBF7DCF55#32
  | 38 => 0xBF7E1781#32
  | 39 => 0xBF7E5ABA#32
  | 40 => 0xBF7E98FD#32
  | 41 => 0xBF7ED249#32
  | 42 => 0xBF7F069E#32
  | 43 => 0xBF7F35F9#32
  | 44 => 0xBF7F605C#32
  | 45 => 0xBF7F85C3#32
  | 46 => 0xBF7FA62F#32
  | 47 => 0xBF7FC1A0#32
  | 48 => 0xBF7FD814#32
  | 49 => 0xBF7FE98B#32
  | 50 => 0xBF7FF605#32
  | 51 => 0xBF7FFD81#32
  | 52 => 0xBF800000#32
  | 53 => 0xBF7FFD81#32
  | 54 => 0xBF7FF605#32
  | 55 => 0xBF7FE98B#32
  | 56 => 0xBF7FD814#32
  | 57 => 0xBF7FC1A0#32
  | 58 => 0xBF7FA62F#32
  | 59 => 0xBF7F85C3#32
  | 60 => 0xBF7F605C#32
  | 61 => 0xBF7F35F9#32
  | 62 => 0xBF7F069E#32
  | 63 => 0xBF7ED249#32
  | 64 => 0xBF7E98FD#32
  | 65 => 0xBF7E5ABA#32
  | 66 => 0xBF7E1781#32
  | 67 => 0xBF7DCF55#32
  | 68 => 0xBF7D8235#32
  | 69 => 0xBF7D3025#32
  | 70 => 0xBF7CD925#32
  | 71 => 0xBF7C7D37#32
  | 72 => 0xBF7C1C5C#32
  | 73 => 0xBF7BB698#32
  | 74 => 0xBF7B4BEB#32
  | 75 => 0xBF7ADC58#32
  | 76 => 0xBF7A67E2#32
  | 77 => 0xBF79EE89#32
  | 78 => 0xBF797051#32
  | 79 => 0xBF78ED3C#32
  | 80 => 0xBF78654D#32
  | 81 => 0xBF77D886#32
  | 82 => 0xBF7746EA#32
  | 83 => 0xBF76B07C#32
  | 84 => 0xBF76153F#32
  | 85 => 0xBF757536#32
  | 86 => 0xBF74D063#32
  | 87 => 0xBF7426CB#32
  | 88 => 0xBF737871#32
  | 89 => 0xBF72C557#32
  | 90 => 0xBF720D81#32
  | 91 => 0xBF7150F4#32
  | 92 => 0xBF708FB2#32
  | 93 => 0xBF6FC9C0#32
  | 94 => 0xBF6EFF20#32
  | 95 => 0xBF6E2FD9#32
  | 96 => 0xBF6D5BEC#32
  | 97 => 0xBF6C835E#32
  | 98 => 0xBF6BA635#32
  | 99 => 0xBF6AC473#32
  | 100 => 0xBF69DE1D#32
  | 101 => 0xBF68F339#32
  | 102 => 0xBF6803CA#32
  | 103 => 0xBF670FD4#32
  | 104 => 0xBF66175E#32
  | 105 => 0xBF651A6B#32
  | 106 => 0xBF641901#32
  | 107 => 0xBF631324#32
  | 108 => 0xBF6208DA#32
  | 109 => 0xBF60FA29#32
  | 110 => 0xBF5FE714#32
  | 111 => 0xBF5ECFA2#32
  | 112 => 0xBF5DB3D7#32
  | 113 => 0xBF5C93BB#32
  | 114 => 0xBF5B6F51#32
  | 115 => 0xBF5A46A0#32
  | 116 => 0xBF5919AE#32
  | 117 => 0xBF57E880#32
  | 118 => 0xBF56B31D#32
  | 119 => 0xBF55798B#32
  | 120 => 0xBF543BCE#32
  | 121 => 0xBF52F9EF#32
  | 122 => 0xBF51B3F3#32
  | 123 => 0xBF5069E0#32
  | 124 => 0xBF4F1BBD#32
  | 125 => 0xBF4DC990#32
  | 126 => 0xBF4C7360#32
  | 127 => 0xBF4B1934#32
  | _ => 0#32

noncomputable abbrev lit1t0_2 (i : Nat) : BitVec 32 := match i % 128 with
  | 0 => 0xBF49BB13#32
  | 1 => 0xBF485902#32
  | 2 => 0xBF46F30A#32
  | 3 => 0xBF458930#32
  | 4 => 0xBF441B7D#32
  | 5 => 0xBF42A9F7#32
  | 6 => 0xBF4134A6#32
  | 7 => 0xBF3FBB90#32
  | 8 => 0xBF3E3EBD#32
  | 9 => 0xBF3CBE35#32
  | 10 => 0xBF3B39FF#32
  | 11 => 0xBF39B223#32
  | 12 => 0xBF3826A7#32
  | 13 => 0xBF369795#32
  | 14 => 0xBF3504F3#32
  | 15 => 0xBF336ECA#32
  | 16 => 0xBF31D522#32
  | 17 => 0xBF303801#32
  | 18 => 0xBF2E9772#32
  | 19 => 0xBF2CF37B#32
  | 20 => 0xBF2B4C25#32
  | 21 => 0xBF29A178#32
  | 22 => 0xBF27F37C#32
  | 23 => 0xBF26423A#32
  | 24 => 0xBF248DBB#32
  | 25 => 0xBF22D606#32
  | 26 => 0xBF211B24#32
  | 27 => 0xBF1F5D1F#32
  | 28 => 0xBF1D9BFE#32
  | 29 => 0xBF1BD7CA#32
  | 30 => 0xBF1A108D#32
  | 31 => 0xBF18464E#32
  | 32 => 0xBF167918#32
  | 33 => 0xBF14A8F3#32
  | 34 => 0xBF12D5E8#32
  | 35 => 0xBF110000#32
  | 36 => 0xBF0F2744#32
  | 37 => 0xBF0D4BBE#32
  | 38 => 0xBF0B6D77#32
  | 39 => 0xBF098C78#32
  | 40 => 0xBF07A8CA#32
  | 41 => 0xBF05C277#32
  | 42 => 0xBF03D989#32
  | 43 => 0xBF01EE09#32
  | 44 => 0xBF000000#32
  | 45 => 0xBEFC1EF1#32
  | 46 => 0xBEF838F7#32
  | 47 => 0xBEF44E27#32
  | 48 => 0xBEF05E94#32
  | 49 => 0xBEEC6A50#32
  | 50 => 0xBEE87171#32
  | 51 => 0xBEE4740A#32
  | 52 => 0xBEE0722F#32
  | 53 => 0xBEDC6BF3#32
  | 54 => 0xBED8616C#32
  | 55 => 0xBED452AC#32
  | 56 => 0xBED03FC9#32
  | 57 => 0xBECC28D7#32
  | 58 => 0xBEC80DE9#32
  | 59 => 0xBEC3EF15#32
  | 60 => 0xBEBFCC6F#32
  | 61 => 0xBEBBA60C#32
  | 62 => 0xBEB77C01#32
  | 63 => 0xBEB34E62#32
  | 64 => 0xBEAF1D44#32
  | 65 => 0xBEAAE8BC#32
  | 66 => 0xBEA6B0DF#32
  | 67 => 0xBEA275C2#32
  | 68 => 0xBE9E377A#32
  | 69 => 0xBE99F61C#32
  | 70 => 0xBE95B1BE#32
  | 71 => 0xBE916A76#32
  | 72 => 0xBE8D2057#32
  | 73 => 0xBE88D378#32
  | 74 => 0xBE8483EE#32
  | 75 => 0xBE8031CF#32
  | 76 => 0xBE77BA60#32
  | 77 => 0xBE6F0C4D#32
  | 78 => 0xBE665992#32
  | 79 => 0xBE5DA259#32
  | 80 => 0xBE54E6CD#32
  | 81 => 0xBE4C271C#32
  | 82 => 0xBE43636F#32
  | 83 => 0xBE3A9BF3#32
  | 84 => 0xBE31D0D4#32
  | 85 => 0xBE29023D#32
  | 86 => 0xBE20305B#32
  | 87 => 0xBE175B5A#32
  | 88 => 0xBE0E8365#32
  | 89 => 0xBE05A8A8#32
  | 90 => 0xBDF996A2#32
  | 91 => 0xBDE7D716#32
  | 92 => 0xBDD61305#32
  | 93 => 0xBDC44AC7#32
  | 94 => 0xBDB27EB6#32
  | 95 => 0xBDA0AF2A#32
  | 96 => 0xBD8EDC7B#32
  | 97 => 0xBD7A0E09#32
  | 98 => 0xBD565E3A#32
  | 99 => 0xBD32AA3E#32
  | 100 => 0xBD0EF2C6#32
  | 101 => 0xBCD6710A#32
  | 102 => 0xBC8EF859#32
  | 103 => 0xBC0EF9BE#32
  | 104 => 0xA50D3132#32
  | 105 => 0x3C0EF9BE#32
  | 106 => 0x3C8EF859#32
  | 107 => 0x3CD6710A#32
  | 108 => 0x3D0EF2C6#32
  | 109 => 0x3D32AA3E#32
  | 110 => 0x3D565E3A#32
  | 111 => 0x3D7A0E09#32
  | 112 => 0x3D8EDC7B#32
  | 113 => 0x3DA0AF2A#32
  | 114 => 0x3DB27EB6#32
  | 115 => 0x3DC44AC7#32
  | 116 => 0x3DD61305#32
  | 117 => 0x3DE7D716#32
  | 118 => 0x3DF996A2#32
  | 119 => 0x3E05A8A8#32
  | 120 => 0x3E0E8365#32
  | 121 => 0x3E175B5A#32
  | 122 => 0x3E20305B#32
  | 123 => 0x3E29023D#32
  | 124 => 0x3E31D0D4#32
  | 125 => 0x3E3A9BF3#32
  | 126 => 0x3E43636F#32
  | 127 => 0x3E4C271C#32
  | _ => 0#32

noncomputable abbrev lit1t0_3 (i : Nat) : BitVec 32 := match i % 128 with
  | 0 => 0x3E54E6CD#32
  | 1 => 0x3E5DA259#32
  | 2 => 0x3E665992#32
  | 3 => 0x3E6F0C4D#32
  | 4 => 0x3E77BA60#32
  | 5 => 0x3E8031CF#32
  | 6 => 0x3E8483EE#32
  | 7 => 0x3E88D378#32
  | 8 => 0x3E8D2057#32
  | 9 => 0x3E916A76#32
  | 10 => 0x3E95B1BE#32
  | 11 => 0x3E99F61C#32
  | 12 => 0x3E9E377A#32
  | 13 => 0x3EA275C2#32
  | 14 => 0x3EA6B0DF#32
  | 15 => 0x3EAAE8BC#32
  | 16 => 0x3EAF1D44#32
  | 17 => 0x3EB34E62#32
  | 18 => 0x3EB77C01#32
  | 19 => 0x3EBBA60C#32
  | 20 => 0x3EBFCC6F#32
  | 21 => 0x3EC3EF15#32
  | 22 => 0x3EC80DE9#32
  | 23 => 0x3ECC28D7#32
  | 24 => 0x3ED03FC9#32
  | 25 => 0x3ED452AC#32
  | 26 => 0x3ED8616C#32
  | 27 => 0x3EDC6BF3#32
  | 28 => 0x3EE0722F#32
  | 29 => 0x3EE4740A#32
  | 30 => 0x3EE87171#32
  | 31 => 0x3EEC6A50#32
  | 32 => 0x3EF05E94#32
  | 33 => 0x3EF44E27#32
  | 34 => 0x3EF838F7#32
  | 35 => 0x3EFC1EF1#32
  | 36 => 0x3F000000#32
  | 37 => 0x3F01EE09#32
  | 38 => 0x3F03D989#32
  | 39 => 0x3F05C277#32
  | 40 => 0x3F07A8CA#32
  | 41 => 0x3F098C78#32
  | 42 => 0x3F0B6D77#32
  | 43 => 0x3F0D4BBE#32
  | 44 => 0x3F0F2744#32
  | 45 => 0x3F110000#32
  | 46 => 0x3F12D5E8#32
  | 47 => 0x3F14A8F3#32
  | 48 => 0x3F167918#32
  | 49 => 0x3F18464E#32
  | 50 => 0x3F1A108D#32
  | 51 => 0x3F1BD7CA#32
  | 52 => 0x3F1D9BFE#32
  | 53 => 0x3F1F5D1F#32
  | 54 => 0x3F211B24#32
  | 55 => 0x3F22D606#32
  | 56 => 0x3F248DBB#32
  | 57 => 0x3F26423A#32
  | 58 => 0x3F27F37C#32
  | 59 => 0x3F29A178#32
  | 60 => 0x3F2B4C25#32
  | 61 => 0x3F2CF37B#32
  | 62 => 0x3F2E9772#32
  | 63 => 0x3F303801#32
  | 64 => 0x3F31D522#32
  | 65 => 0x3F336ECA#32
  | 66 => 0x3F3504F3#32
  | 67 => 0x3F369795#32
  | 68 => 0x3F3826A7#32
  | 69 => 0x3F39B223#32
  | 70 => 0x3F3B39FF#32
  | 71 => 0x3F3CBE35#32
  | 72 => 0x3F3E3EBD#32
  | 73 => 0x3F3FBB90#32
  | 74 => 0x3F4134A6#32
  | 75 => 0x3F42A9F7#32
  | 76 => 0x3F441B7D#32
  | 77 => 0x3F458930#32
  | 78 => 0x3F46F30A#32
  | 79 => 0x3F485902#32
  | 80 => 0x3F49BB13#32
  | 81 => 0x3F4B1934#32
  | 82 => 0x3F4C7360#32
  | 83 => 0x3F4DC990#32
  | 84 => 0x3F4F1BBD#32
  | 85 => 0x3F5069E0#32
  | 86 => 0x3F51B3F3#32
  | 87 => 0x3F52F9EF#32
  | 88 => 0x3F543BCE#32
  | 89 => 0x3F55798B#32
  | 90 => 0x3F56B31D#32
  | 91 => 0x3F57E880#32
  | 92 => 0x3F5919AE#32
  | 93 => 0x3F5A46A0#32
  | 94 => 0x3F5B6F51#32
  | 95 => 0x3F5C93BB#32
  | 96 => 0x3F5DB3D7#32
  | 97 => 0x3F5ECFA2#32
  | 98 => 0x3F5FE714#32
  | 99 => 0x3F60FA29#32
  | 100 => 0x3F6208DA#32
  | 101 => 0x3F631324#32
  | 102 => 0x3F641901#32
  | 103 => 0x3F651A6B#32
  | 104 => 0x3F66175E#32
  | 105 => 0x3F670FD4#32
  | 106 => 0x3F6803CA#32
  | 107 => 0x3F68F339#32
  | 108 => 0x3F69DE1D#32
  | 109 => 0x3F6AC473#32
  | 110 => 0x3F6BA635#32
  | 111 => 0x3F6C835E#32
  | 112 => 0x3F6D5BEC#32
  | 113 => 0x3F6E2FD9#32
  | 114 => 0x3F6EFF20#32
  | 115 => 0x3F6FC9C0#32
  | 116 => 0x3F708FB2#32
  | 117 => 0x3F7150F4#32
  | 118 => 0x3F720D81#32
  | 119 => 0x3F72C557#32
  | 120 => 0x3F737871#32
  | 121 => 0x3F7426CB#32
  | 122 => 0x3F74D063#32
  | 123 => 0x3F757536#32
  | 124 => 0x3F76153F#32
  | 125 => 0x3F76B07C#32
  | 126 => 0x3F7746EA#32
  | 127 => 0x3F77D886#32
  | _ => 0#32

noncomputable abbrev lit1t0_4 (i : Nat) : BitVec 32 := match i % 128 with
  | 0 => 0x3F78654D#32
  | 1 => 0x3F78ED3C#32
  | 2 => 0x3F797051#32
  | 3 => 0x3F79EE89#32
  | 4 => 0x3F7A67E2#32
  | 5 => 0x3F7ADC58#32
  | 6 => 0x3F7B4BEB#32
  | 7 => 0x3F7BB698#32
  | 8 => 0x3F7C1C5C#32
  | 9 => 0x3F7C7D37#32
  | 10 => 0x3F7CD925#32
  | 11 => 0x3F7D3025#32
  | 12 => 0x3F7D8235#32
  | 13 => 0x3F7DCF55#32
  | 14 => 0x3F7E1781#32
  | 15 => 0x3F7E5ABA#32
  | 16 => 0x3F7E98FD#32
  | 17 => 0x3F7ED249#32
  | 18 => 0x3F7F069E#32
  | 19 => 0x3F7F35F9#32
  | 20 => 0x3F7F605C#32
  | 21 => 0x3F7F85C3#32
  | 22 => 0x3F7FA62F#32
  | 23 => 0x3F7FC1A0#32
  | 24 => 0x3F7FD814#32
  | 25 => 0x3F7FE98B#32
  | 26 => 0x3F7FF605#32
  | 27 => 0x3F7FFD81#32
  | 28 => 0x3F800000#32
  | 29 => 0x3F7FFD81#32
  | 30 => 0x3F7FF605#32
  | 31 => 0x3F7FE98B#32
  | 32 => 0x3F7FD814#32
  | 33 => 0x3F7FC1A0#32
  | 34 => 0x3F7FA62F#32
  | 35 => 0x3F7F85C3#32
  | 36 => 0x3F7F605C#32
  | 37 => 0x3F7F35F9#32
  | 38 => 0x3F7F069E#32
  | 39 => 0x3F7ED249#32
  | 40 => 0x3F7E98FD#32
  | 41 => 0x3F7E5ABA#32
  | 42 => 0x3F7E1781#32
  | 43 => 0x3F7DCF55#32
  | 44 => 0x3F7D8235#32
  | 45 => 0x3F7D3025#32
  | 46 => 0x3F7CD925#32
  | 47 => 0x3F7C7D37#32
  | 48 => 0x3F7C1C5C#32
  | 49 => 0x3F7BB698#32
  | 50 => 0x3F7B4BEB#32
  | 51 => 0x3F7ADC58#32
  | 52 => 0x3F7A67E2#32
  | 53 => 0x3F79EE89#32
  | 54 => 0x3F797051#32
  | 55 => 0x3F78ED3C#32
  | 56 => 0x3F78654D#32
  | 57 => 0x3F77D886#32
  | 58 => 0x3F7746EA#32
  | 59 => 0x3F76B07C#32
  | 60 => 0x3F76153F#32
  | 61 => 0x3F757536#32
  | 62 => 0x3F74D063#32
  | 63 => 0x3F7426CB#32
  | 64 => 0x3F737871#32
  | 65 => 0x3F72C557#32
  | 66 => 0x3F720D81#32
  | 67 => 0x3F7150F4#32
  | 68 => 0x3F708FB2#32
  | 69 => 0x3F6FC9C0#32
  | 70 => 0x3F6EFF20#32
  | 71 => 0x3F6E2FD9#32
  | 72 => 0x3F6D5BEC#32
  | 73 => 0x3F6C835E#32
  | 74 => 0x3F6BA635#32
  | 75 => 0x3F6AC473#32
  | 76 => 0x3F69DE1D#32
  | 77 => 0x3F68F339#32
  | 78 => 0x3F6803CA#32
  | 79 => 0x3F670FD4#32
  | 80 => 0x3F66175E#32
  | 81 => 0x3F651A6B#32
  | 82 => 0x3F641901#32
  | 83 => 0x3F631324#32
  | 84 => 0x3F6208DA#32
  | 85 => 0x3F60FA29#32
  | 86 => 0x3F5FE714#32
  | 87 => 0x3F5ECFA2#32
  | 88 => 0x3F5DB3D7#32
  | 89 => 0x3F5C93BB#32
  | 90 => 0x3F5B6F51#32
  | 91 => 0x3F5A46A0#32
  | 92 => 0x3F5919AE#32
  | 93 => 0x3F57E880#32
  | 94 => 0x3F56B31D#32
  | 95 => 0x3F55798B#32
  | 96 => 0x3F543BCE#32
  | 97 => 0x3F52F9EF#32
  | 98 => 0x3F51B3F3#32
  | 99 => 0x3F5069E0#32
  | 100 => 0x3F4F1BBD#32
  | 101 => 0x3F4DC990#32
  | 102 => 0x3F4C7360#32
  | 103 => 0x3F4B1934#32
  | 104 => 0x3F49BB13#32
  | 105 => 0x3F485902#32
  | 106 => 0x3F46F30A#32
  | 107 => 0x3F458930#32
  | 108 => 0x3F441B7D#32
  | 109 => 0x3F42A9F7#32
  | 110 => 0x3F4134A6#32
  | 111 => 0x3F3FBB90#32
  | 112 => 0x3F3E3EBD#32
  | 113 => 0x3F3CBE35#32
  | 114 => 0x3F3B39FF#32
  | 115 => 0x3F39B223#32
  | 116 => 0x3F3826A7#32
  | 117 => 0x3F369795#32
  | 118 => 0x3F3504F3#32
  | 119 => 0x3F336ECA#32
  | 120 => 0x3F31D522#32
  | 121 => 0x3F303801#32
  | 122 => 0x3F2E9772#32
  | 123 => 0x3F2CF37B#32
  | 124 => 0x3F2B4C25#32
  | 125 => 0x3F29A178#32
  | 126 => 0x3F27F37C#32
  | 127 => 0x3F26423A#32
  | _ => 0#32

noncomputable abbrev lit1t0_5 (i : Nat) : BitVec 32 := match i % 128 with
  | 0 => 0x3F248DBB#32
  | 1 => 0x3F22D606#32
  | 2 => 0x3F211B24#32
  | 3 => 0x3F1F5D1F#32
  | 4 => 0x3F1D9BFE#32
  | 5 => 0x3F1BD7CA#32
  | 6 => 0x3F1A108D#32
  | 7 => 0x3F18464E#32
  | 8 => 0x3F167918#32
  | 9 => 0x3F14A8F3#32
  | 10 => 0x3F12D5E8#32
  | 11 => 0x3F110000#32
  | 12 => 0x3F0F2744#32
  | 13 => 0x3F0D4BBE#32
  | 14 => 0x3F0B6D77#32
  | 15 => 0x3F098C78#32
  | 16 => 0x3F07A8CA#32
  | 17 => 0x3F05C277#32
  | 18 => 0x3F03D989#32
  | 19 => 0x3F01EE09#32
  | 20 => 0x3F000000#32
  | 21 => 0x3EFC1EF1#32
  | 22 => 0x3EF838F7#32
  | 23 => 0x3EF44E27#32
  | 24 => 0x3EF05E94#32
  | 25 => 0x3EEC6A50#32
  | 26 => 0x3EE87171#32
  | 27 => 0x3EE4740A#32
  | 28 => 0x3EE0722F#32
  | 29 => 0x3EDC6BF3#32
  | 30 => 0x3ED8616C#32
  | 31 => 0x3ED452AC#32
  | 32 => 0x3ED03FC9#32
  | 33 => 0x3ECC28D7#32
  | 34 => 0x3EC80DE9#32
  | 35 => 0x3EC3EF15#32
  | 36 => 0x3EBFCC6F#32
  | 37 => 0x3EBBA60C#32
  | 38 => 0x3EB77C01#32
  | 39 => 0x3EB34E62#32
  | 40 => 0x3EAF1D44#32
  | 41 => 0x3EAAE8BC#32
  | 42 => 0x3EA6B0DF#32
  | 43 => 0x3EA275C2#32
  | 44 => 0x3E9E377A#32
  | 45 => 0x3E99F61C#32
  | 46 => 0x3E95B1BE#32
  | 47 => 0x3E916A76#32
  | 48 => 0x3E8D2057#32
  | 49 => 0x3E88D378#32
  | 50 => 0x3E8483EE#32
  | 51 => 0x3E8031CF#32
  | 52 => 0x3E77BA60#32
  | 53 => 0x3E6F0C4D#32
  | 54 => 0x3E665992#32
  | 55 => 0x3E5DA259#32
  | 56 => 0x3E54E6CD#32
  | 57 => 0x3E4C271C#32
  | 58 => 0x3E43636F#32
  | 59 => 0x3E3A9BF3#32
  | 60 => 0x3E31D0D4#32
  | 61 => 0x3E29023D#32
  | 62 => 0x3E20305B#32
  | 63 => 0x3E175B5A#32
  | 64 => 0x3E0E8365#32
  | 65 => 0x3E05A8A8#32
  | 66 => 0x3DF996A2#32
  | 67 => 0x3DE7D716#32
  | 68 => 0x3DD61305#32
  | 69 => 0x3DC44AC7#32
  | 70 => 0x3DB27EB6#32
  | 71 => 0x3DA0AF2A#32
  | 72 => 0x3D8EDC7B#32
  | 73 => 0x3D7A0E09#32
  | 74 => 0x3D565E3A#32
  | 75 => 0x3D32AA3E#32
  | 76 => 0x3D0EF2C6#32
  | 77 => 0x3CD6710A#32
  | 78 => 0x3C8EF859#32
  | 79 => 0x3C0EF9BE#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | _ => 0#32

noncomputable abbrev lit1 : Fin 720 → BitVec 32 := fun ⟨i, _⟩ => lit1t i

def fn_part1 {F : FTy → Type} [FloatOps F] (main_arg2 : FVec F S16 .f32) (main_arg4 : FVec F S1 .f32) (main_v19 : FVec F S41088x361 .f32) : IVec S_ 1 × IVec S_ 1 × IVec S_ 1 :=
  let main_v20 : FVec F S41088x361 .f32 := Host.sqrt main_v19
  let main_values : FVec F S41088x37 .f32 := (fun x => (Host.topK S41088x37 1 (FloatOps.cmpfTotal .gt) x sliceFits_S41088x361_S41088x37).1) main_v20
  let main_indices : IVec S41088x37 32 := (fun x => (Host.topK S41088x37 1 (FloatOps.cmpfTotal .gt) x sliceFits_S41088x361_S41088x37).2) main_v20
  let main_cst_2 : FVec F S_ .f32 := constant S_ .f32 0x00000000#32
  let main_v21 : FVec F S16 .f32 := broadcastInDim S16 ![] bcast_S_S16 main_cst_2
  let main_v22 : IVec S16 1 := cmpf .oeq main_arg2 main_v21
  let main_c_3 : IVec S_ 1 := constantI S_ 1 1#1
  let main_v23 : IVec S_ 1 := (fun x v => Host.reduce IntOp.andi x v reducesTo_S16_S_d0 h_S_) main_v22 main_c_3
  let main_cst_4 : FVec F S_ .f32 := constant S_ .f32 0x00000000#32
  let main_v24 : FVec F S1 .f32 := broadcastInDim S1 ![] bcast_S_S1 main_cst_4
  let main_v25 : IVec S1 1 := cmpf .oeq main_arg4 main_v24
  let main_c_5 : IVec S_ 1 := constantI S_ 1 1#1
  let main_v26 : IVec S_ 1 := (fun x v => Host.reduce IntOp.andi x v reducesTo_S1_S_d0 h_S_) main_v25 main_c_5
  let main_v27 : FVec F S41088x36 .f32 := (extractStridedSlice S41088x36 ![0, 0] · slices_S41088x37_S41088x36_0_0) main_values
  let main_v28 : FVec F S41088x36 .f32 := (extractStridedSlice S41088x36 ![0, 1] · slices_S41088x37_S41088x36_0_1) main_values
  let main_v29 : IVec S41088x36 1 := cmpf .ogt main_v27 main_v28
  let main_c_6 : IVec S_ 1 := constantI S_ 1 1#1
  let main_v30 : IVec S_ 1 := (fun x v => Host.reduce IntOp.andi x v reducesTo_S41088x36_S_d0_1 h_S_) main_v29 main_c_6
  (main_v23, main_v26, main_v30)

def fn {F : FTy → Type} [FloatOps F] (main_arg0 : FVec F S128x321x720 .f32) (main_arg1 : FVec F S16x1 .f32) (main_arg2 : FVec F S16 .f32) (main_arg3 : FVec F S1x16 .f32) (main_arg4 : FVec F S1 .f32) : IVec S_ 1 × IVec S_ 1 × IVec S_ 1 :=
  let main_cst : FVec F S720 .f32 := fun i => FloatOps.ofBits .f32 (lit0 (S720.rowMajor i))
  let main_cst_0 : FVec F S720 .f32 := fun i => FloatOps.ofBits .f32 (lit1 (S720.rowMajor i))
  let main_v0 : FVec F S41088x720 .f32 := shapeCast S41088x720 main_arg0 shapeCasts_S128x321x720_S41088x720
  let main_v1 : IVec S720x361 32 := iotaInDim S720x361 32 0
  let main_v2 : IVec S720x361 32 := iotaInDim S720x361 32 1
  let main_v3 : IVec S720x361 32 := muli main_v1 main_v2
  let main_c : IVec S_ 32 := constantI S_ 32 720#32
  let main_v4 : IVec S720x361 32 := broadcastInDim S720x361 ![] bcast_S_S720x361 main_c
  let main_v5 : IVec S720x361 32 := Host.remsi main_v3 main_v4
  let main_v6 : IVec S720x361x1 32 := broadcastInDim S720x361x1 ![0, 1] bcast_S720x361_S720x361x1_0_1 main_v5
  let main_v7 : FVec F S720x361 .f32 := (fun x i => Host.gather gather_S720_S720x361x1_S720x361_n_0_n_n_0_2_1 x i) main_cst main_v6
  let main_v8 : FVec F S41088x361 .f32 := (fun l r => Host.dotGeneral dot_S41088x720_S720x361_S41088x361_1_0_0_1_n_n (some .fp32) l r) main_v0 main_v7
  let main_v9 : IVec S720x361 32 := iotaInDim S720x361 32 0
  let main_v10 : IVec S720x361 32 := iotaInDim S720x361 32 1
  let main_v11 : IVec S720x361 32 := muli main_v9 main_v10
  let main_c_1 : IVec S_ 32 := constantI S_ 32 720#32
  let main_v12 : IVec S720x361 32 := broadcastInDim S720x361 ![] bcast_S_S720x361 main_c_1
  let main_v13 : IVec S720x361 32 := Host.remsi main_v11 main_v12
  let main_v14 : IVec S720x361x1 32 := broadcastInDim S720x361x1 ![0, 1] bcast_S720x361_S720x361x1_0_1 main_v13
  let main_v15 : FVec F S720x361 .f32 := (fun x i => Host.gather gather_S720_S720x361x1_S720x361_n_0_n_n_0_2_1 x i) main_cst_0 main_v14
  let main_v16 : FVec F S41088x361 .f32 := (fun l r => Host.dotGeneral dot_S41088x720_S720x361_S41088x361_1_0_0_1_n_n (some .fp32) l r) main_v0 main_v15
  let main_v17 : FVec F S41088x361 .f32 := mulf main_v8 main_v8
  let main_v18 : FVec F S41088x361 .f32 := mulf main_v16 main_v16
  let main_v19 : FVec F S41088x361 .f32 := addf main_v17 main_v18
  fn_part1 (F := F) main_arg2 main_arg4 main_v19
-- ==== Kernel.lean ====
abbrev S128x321x720 : Shape := ⟨3, ![128, 321, 720]⟩
abbrev S16x1 : Shape := ⟨2, ![16, 1]⟩
abbrev S16 : Shape := ⟨1, ![16]⟩
abbrev S1x16 : Shape := ⟨2, ![1, 16]⟩
abbrev S1 : Shape := ⟨1, ![1]⟩
abbrev S720 : Shape := ⟨1, ![720]⟩
abbrev S41088x720 : Shape := ⟨2, ![41088, 720]⟩
abbrev S720x384 : Shape := ⟨2, ![720, 384]⟩
abbrev S_ : Shape := ⟨0, ![]⟩
abbrev S720x384x1 : Shape := ⟨3, ![720, 384, 1]⟩
abbrev S384x720 : Shape := ⟨2, ![384, 720]⟩
abbrev S384x384 : Shape := ⟨2, ![384, 384]⟩
abbrev S384 : Shape := ⟨1, ![384]⟩
abbrev S384x1 : Shape := ⟨2, ![384, 1]⟩
abbrev S1x1 : Shape := ⟨2, ![1, 1]⟩

abbrev nBuf : Space → Nat
  | .hbm => 62
  | .vmem => 8
  | .smem => 2
  | _ => 0

abbrev bufTy : (tb : Table) → Fin (tcTables nBuf tb) → BufTy
  | .hbm, ⟨0, _⟩ => ⟨S128x321x720, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S720, .f32⟩
  | .hbm, ⟨6, _⟩ => ⟨S720, .f32⟩
  | .hbm, ⟨7, _⟩ => ⟨S720, .f32⟩
  | .hbm, ⟨8, _⟩ => ⟨S720, .f32⟩
  | .hbm, ⟨9, _⟩ => ⟨S720, .f32⟩
  | .hbm, ⟨10, _⟩ => ⟨S720, .f32⟩
  | .hbm, ⟨11, _⟩ => ⟨S41088x720, .f32⟩
  | .hbm, ⟨12, _⟩ => ⟨S1x16, .f32⟩
  | .hbm, ⟨13, _⟩ => ⟨S720x384, .i32⟩
  | .hbm, ⟨14, _⟩ => ⟨S720x384, .i32⟩
  | .hbm, ⟨15, _⟩ => ⟨S720x384, .i32⟩
  | .hbm, ⟨16, _⟩ => ⟨S_, .i32⟩
  | .hbm, ⟨17, _⟩ => ⟨S720x384, .i32⟩
  | .hbm, ⟨18, _⟩ => ⟨S720x384, .i32⟩
  | .hbm, ⟨19, _⟩ => ⟨S_, .i32⟩
  | .hbm, ⟨20, _⟩ => ⟨S720x384, .i32⟩
  | .hbm, ⟨21, _⟩ => ⟨S720x384, .i1⟩
  | .hbm, ⟨22, _⟩ => ⟨S_, .i32⟩
  | .hbm, ⟨23, _⟩ => ⟨S720x384, .i32⟩
  | .hbm, ⟨24, _⟩ => ⟨S720x384, .i1⟩
  | .hbm, ⟨25, _⟩ => ⟨S_, .i32⟩
  | .hbm, ⟨26, _⟩ => ⟨S720x384, .i32⟩
  | .hbm, ⟨27, _⟩ => ⟨S720x384, .i1⟩
  | .hbm, ⟨28, _⟩ => ⟨S720x384, .i1⟩
  | .hbm, ⟨29, _⟩ => ⟨S720x384x1, .i32⟩
  | .hbm, ⟨30, _⟩ => ⟨S720x384, .f32⟩
  | .hbm, ⟨31, _⟩ => ⟨S_, .f32⟩
  | .hbm, ⟨32, _⟩ => ⟨S_, .f32⟩
  | .hbm, ⟨33, _⟩ => ⟨S720x384, .f32⟩
  | .hbm, ⟨34, _⟩ => ⟨S720x384, .f32⟩
  | .hbm, ⟨35, _⟩ => ⟨S720x384x1, .i32⟩
  | .hbm, ⟨36, _⟩ => ⟨S720x384, .f32⟩
  | .hbm, ⟨37, _⟩ => ⟨S_, .f32⟩
  | .hbm, ⟨38, _⟩ => ⟨S_, .f32⟩
  | .hbm, ⟨39, _⟩ => ⟨S720x384, .f32⟩
  | .hbm, ⟨40, _⟩ => ⟨S720x384, .f32⟩
  | .hbm, ⟨41, _⟩ => ⟨S720x384x1, .i32⟩
  | .hbm, ⟨42, _⟩ => ⟨S720x384, .f32⟩
  | .hbm, ⟨43, _⟩ => ⟨S720x384x1, .i32⟩
  | .hbm, ⟨44, _⟩ => ⟨S720x384, .f32⟩
  | .hbm, ⟨45, _⟩ => ⟨S720x384, .f32⟩
  | .hbm, ⟨46, _⟩ => ⟨S_, .f32⟩
  | .hbm, ⟨47, _⟩ => ⟨S_, .f32⟩
  | .hbm, ⟨48, _⟩ => ⟨S720x384, .f32⟩
  | .hbm, ⟨49, _⟩ => ⟨S720x384, .f32⟩
  | .hbm, ⟨50, _⟩ => ⟨S384x720, .f32⟩
  | .hbm, ⟨51, _⟩ => ⟨S720x384x1, .i32⟩
  | .hbm, ⟨52, _⟩ => ⟨S720x384, .f32⟩
  | .hbm, ⟨53, _⟩ => ⟨S720x384x1, .i32⟩
  | .hbm, ⟨54, _⟩ => ⟨S720x384, .f32⟩
  | .hbm, ⟨55, _⟩ => ⟨S720x384, .f32⟩
  | .hbm, ⟨56, _⟩ => ⟨S_, .f32⟩
  | .hbm, ⟨57, _⟩ => ⟨S_, .f32⟩
  | .hbm, ⟨58, _⟩ => ⟨S720x384, .f32⟩
  | .hbm, ⟨59, _⟩ => ⟨S720x384, .f32⟩
  | .hbm, ⟨60, _⟩ => ⟨S384x720, .f32⟩
  | .hbm, ⟨61, _⟩ => ⟨S41088x720, .f32⟩
  | .local _ .vmem, ⟨0, _⟩ => ⟨S384x720, .f32⟩
  | .local _ .vmem, ⟨1, _⟩ => ⟨S384x720, .f32⟩
  | .local _ .vmem, ⟨2, _⟩ => ⟨S720x384, .f32⟩
  | .local _ .vmem, ⟨3, _⟩ => ⟨S720x384, .f32⟩
  | .local _ .vmem, ⟨4, _⟩ => ⟨S384x720, .f32⟩
  | .local _ .vmem, ⟨5, _⟩ => ⟨S384x720, .f32⟩
  | .local _ .vmem, ⟨6, _⟩ => ⟨S384x720, .f32⟩
  | .local _ .vmem, ⟨7, _⟩ => ⟨S384x720, .f32⟩
  | .local _ .smem, ⟨0, _⟩ => ⟨S1x16, .f32⟩
  | .local _ .smem, ⟨1, _⟩ => ⟨S1x16, .f32⟩
  | _, _ => ⟨S128x321x720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_5 : Ref sig .tc := ⟨.hbm, 19, rfl⟩
abbrev main_v7 : Ref sig .tc := ⟨.hbm, 20, rfl⟩
abbrev main_v8 : Ref sig .tc := ⟨.hbm, 21, rfl⟩
abbrev main_c_6 : Ref sig .tc := ⟨.hbm, 22, rfl⟩
abbrev main_v9 : Ref sig .tc := ⟨.hbm, 23, rfl⟩
abbrev main_v10 : Ref sig .tc := ⟨.hbm, 24, rfl⟩
abbrev main_c_7 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_9 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_10 : Ref sig .tc := ⟨.hbm, 46, rfl⟩
abbrev main_call3_v0 : Ref sig .tc := ⟨.hbm, 47, rfl⟩
abbrev main_call3_v1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_call5_v0 : Ref sig .tc := ⟨.hbm, 57, rfl⟩
abbrev main_call5_v1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![107], ![false]⟩

@[reducible] def k0_t1_loop : Scf.Loop 32 :=
  let c0_i32 : BitVec 32 := 0#32
  let c35_i32 : BitVec 32 := 35#32
  let v16 : BitVec 32 := Scalar.addi c0_i32 c35_i32
  let c1_i32 : BitVec 32 := 1#32
  ⟨c0_i32, v16, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S720x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S720x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x720 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x720 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x720 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x321x720 : Shape := ⟨3, ![128, 321, 720]⟩
abbrev S16x1 : Shape := ⟨2, ![16, 1]⟩
abbrev S16 : Shape := ⟨1, ![16]⟩
abbrev S1x16 : Shape := ⟨2, ![1, 16]⟩
abbrev S1 : Shape := ⟨1, ![1]⟩
abbrev S720 : Shape := ⟨1, ![720]⟩
abbrev S41088x720 : Shape := ⟨2, ![41088, 720]⟩
abbrev S720x361 : Shape := ⟨2, ![720, 361]⟩
abbrev S_ : Shape := ⟨0, ![]⟩
abbrev S720x361x1 : Shape := ⟨3, ![720, 361, 1]⟩
abbrev S41088x361 : Shape := ⟨2, ![41088, 361]⟩
abbrev S41088x36 : Shape := ⟨2, ![41088, 36]⟩
abbrev S41088x36x1 : Shape := ⟨3, ![41088, 36, 1]⟩
abbrev S41088x36x16 : Shape := ⟨3, ![41088, 36, 16]⟩
abbrev S1x1x16 : Shape := ⟨3, ![1, 1, 16]⟩
abbrev S1x1x1 : Shape := ⟨3, ![1, 1, 1]⟩
abbrev S41088 : Shape := ⟨1, ![41088]⟩
abbrev S41088x1 : Shape := ⟨2, ![41088, 1]⟩
abbrev S41088x36x2 : Shape := ⟨3, ![41088, 36, 2]⟩
abbrev S361 : Shape := ⟨1, ![361]⟩
abbrev S1x361 : Shape := ⟨2, ![1, 361]⟩
abbrev S361x720 : Shape := ⟨2, ![361, 720]⟩

abbrev nBuf : Space → Nat
  | .hbm => 119
  | .vmem => 0
  | .smem => 0
  | _ => 0

abbrev bufTy : (tb : Table) → Fin (tcTables nBuf tb) → BufTy
  | .hbm, ⟨0, _⟩ => ⟨S128x321x720, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S720, .f32⟩
  | .hbm, ⟨6, _⟩ => ⟨S720, .f32⟩
  | .hbm, ⟨7, _⟩ => ⟨S720, .f32⟩
  | .hbm, ⟨8, _⟩ => ⟨S720, .f32⟩
  | .hbm, ⟨9, _⟩ => ⟨S41088x720, .f32⟩
  | .hbm, ⟨10, _⟩ => ⟨S720x361, .i32⟩
  | .hbm, ⟨11, _⟩ => ⟨S720x361, .i32⟩
  | .hbm, ⟨12, _⟩ => ⟨S720x361, .i32⟩
  | .hbm, ⟨13, _⟩ => ⟨S_, .i32⟩
  | .hbm, ⟨14, _⟩ => ⟨S720x361, .i32⟩
  | .hbm, ⟨15, _⟩ => ⟨S720x361, .i32⟩
  | .hbm, ⟨16, _⟩ => ⟨S720x361x1, .i32⟩
  | .hbm, ⟨17, _⟩ => ⟨S720x361, .f32⟩
  | .hbm, ⟨18, _⟩ => ⟨S41088x361, .f32⟩
  | .hbm, ⟨19, _⟩ => ⟨S720x361, .i32⟩
  | .hbm, ⟨20, _⟩ => ⟨S720x361, .i32⟩
  | .hbm, ⟨21, _⟩ => ⟨S720x361, .i32⟩
  | .hbm, ⟨22, _⟩ => ⟨S_, .i32⟩
  | .hbm, ⟨23, _⟩ => ⟨S720x361, .i32⟩
  | .hbm, ⟨24, _⟩ => ⟨S720x361, .i32⟩
  | .hbm, ⟨25, _⟩ => ⟨S720x361x1, .i32⟩
  | .hbm, ⟨26, _⟩ => ⟨S720x361, .f32⟩
  | .hbm, ⟨27, _⟩ => ⟨S41088x361, .f32⟩
  | .hbm, ⟨28, _⟩ => ⟨S41088x361, .f32⟩
  | .hbm, ⟨29, _⟩ => ⟨S41088x361, .f32⟩
  | .hbm, ⟨30, _⟩ => ⟨S41088x361, .f32⟩
  | .hbm, ⟨31, _⟩ => ⟨S41088x361, .f32⟩
  | .hbm, ⟨32, _⟩ => ⟨S41088x361, .f32⟩
  | .hbm, ⟨33, _⟩ => ⟨S41088x36, .f32⟩
  | .hbm, ⟨34, _⟩ => ⟨S41088x36, .i32⟩
  | .hbm, ⟨35, _⟩ => ⟨S41088x36x1, .f32⟩
  | .hbm, ⟨36, _⟩ => ⟨S1x16, .f32⟩
  | .hbm, ⟨37, _⟩ => ⟨S41088x36x16, .f32⟩
  | .hbm, ⟨38, _⟩ => ⟨S1x1x16, .f32⟩
  | .hbm, ⟨39, _⟩ => ⟨S41088x36x16, .f32⟩
  | .hbm, ⟨40, _⟩ => ⟨S41088x36x16, .f32⟩
  | .hbm, ⟨41, _⟩ => ⟨S_, .f32⟩
  | .hbm, ⟨42, _⟩ => ⟨S41088x36x16, .f32⟩
  | .hbm, ⟨43, _⟩ => ⟨S41088x36x16, .f32⟩
  | .hbm, ⟨44, _⟩ => ⟨S16x1, .f32⟩
  | .hbm, ⟨45, _⟩ => ⟨S41088x36x1, .f32⟩
  | .hbm, ⟨46, _⟩ => ⟨S1x1x1, .f32⟩
  | .hbm, ⟨47, _⟩ => ⟨S41088x36x1, .f32⟩
  | .hbm, ⟨48, _⟩ => ⟨S41088x36x1, .f32⟩
  | .hbm, ⟨49, _⟩ => ⟨S41088x36, .f32⟩
  | .hbm, ⟨50, _⟩ => ⟨S41088, .i32⟩
  | .hbm, ⟨51, _⟩ => ⟨S41088x1, .i32⟩
  | .hbm, ⟨52, _⟩ => ⟨S_, .f32⟩
  | .hbm, ⟨53, _⟩ => ⟨S41088x361, .f32⟩
  | .hbm, ⟨54, _⟩ => ⟨S_, .i32⟩
  | .hbm, ⟨55, _⟩ => ⟨S41088x1, .i32⟩
  | .hbm, ⟨56, _⟩ => ⟨S41088x1, .i1⟩
  | .hbm, ⟨57, _⟩ => ⟨S_, .i32⟩
  | .hbm, ⟨58, _⟩ => ⟨S41088x1, .i32⟩
  | .hbm, ⟨59, _⟩ => ⟨S41088x1, .i32⟩
  | .hbm, ⟨60, _⟩ => ⟨S41088x1, .i32⟩
  | .hbm, ⟨61, _⟩ => ⟨S_, .i32⟩
  | .hbm, ⟨62, _⟩ => ⟨S41088x36, .i32⟩
  | .hbm, ⟨63, _⟩ => ⟨S41088x36, .i1⟩
  | .hbm, ⟨64, _⟩ => ⟨S_, .i32⟩
  | .hbm, ⟨65, _⟩ => ⟨S41088x36, .i32⟩
  | .hbm, ⟨66, _⟩ => ⟨S41088x36, .i32⟩
  | .hbm, ⟨67, _⟩ => ⟨S41088x36, .i32⟩
  | .hbm, ⟨68, _⟩ => ⟨S41088x36, .i32⟩
  | .hbm, ⟨69, _⟩ => ⟨S41088x36x1, .i32⟩
  | .hbm, ⟨70, _⟩ => ⟨S41088x36x1, .i32⟩
  | .hbm, ⟨71, _⟩ => ⟨S41088x36x2, .i32⟩
  | .hbm, ⟨72, _⟩ => ⟨S41088x361, .f32⟩
  | .hbm, ⟨73, _⟩ => ⟨S41088x361, .f32⟩
  | .hbm, ⟨74, _⟩ => ⟨S41088x361, .f32⟩
  | .hbm, ⟨75, _⟩ => ⟨S41088x361, .f32⟩
  | .hbm, ⟨76, _⟩ => ⟨S41088x361, .f32⟩
  | .hbm, ⟨77, _⟩ => ⟨S361, .i32⟩
  | .hbm, ⟨78, _⟩ => ⟨S_, .i32⟩
  | .hbm, ⟨79, _⟩ => ⟨S361, .i32⟩
  | .hbm, ⟨80, _⟩ => ⟨S361, .i1⟩
  | .hbm, ⟨81, _⟩ => ⟨S_, .i32⟩
  | .hbm, ⟨82, _⟩ => ⟨S361, .i32⟩
  | .hbm, ⟨83, _⟩ => ⟨S361, .i1⟩
  | .hbm, ⟨84, _⟩ => ⟨S361, .i1⟩
  | .hbm, ⟨85, _⟩ => ⟨S_, .f32⟩
  | .hbm, ⟨86, _⟩ => ⟨S_, .f32⟩
  | .hbm, ⟨87, _⟩ => ⟨S361, .f32⟩
  | .hbm, ⟨88, _⟩ => ⟨S361, .f32⟩
  | .hbm, ⟨89, _⟩ => ⟨S361, .f32⟩
  | .hbm, ⟨90, _⟩ => ⟨S361, .f32⟩
  | .hbm, ⟨91, _⟩ => ⟨S1x361, .f32⟩
  | .hbm, ⟨92, _⟩ => ⟨S41088x361, .f32⟩
  | .hbm, ⟨93, _⟩ => ⟨S41088x361, .f32⟩
  | .hbm, ⟨94, _⟩ => ⟨S720x361, .i32⟩
  | .hbm, ⟨95, _⟩ => ⟨S720x361, .i32⟩
  | .hbm, ⟨96, _⟩ => ⟨S720x361, .i32⟩
  | .hbm, ⟨97, _⟩ => ⟨S_, .i32⟩
  | .hbm, ⟨98, _⟩ => ⟨S720x361, .i32⟩
  | .hbm, ⟨99, _⟩ => ⟨S720x361, .i32⟩
  | .hbm, ⟨100, _⟩ => ⟨S720x361x1, .i32⟩
  | .hbm, ⟨101, _⟩ => ⟨S720x361, .f32⟩
  | .hbm, ⟨102, _⟩ => ⟨S361x720, .f32⟩
  | .hbm, ⟨103, _⟩ => ⟨S41088x720, .f32⟩
  | .hbm, ⟨104, _⟩ => ⟨S361, .f32⟩
  | .hbm, ⟨105, _⟩ => ⟨S1x361, .f32⟩
  | .hbm, ⟨106, _⟩ => ⟨S41088x361, .f32⟩
  | .hbm, ⟨107, _⟩ => ⟨S41088x361, .f32⟩
  | .hbm, ⟨108, _⟩ => ⟨S720x361, .i32⟩
  | .hbm, ⟨109, _⟩ => ⟨S720x361, .i32⟩
  | .hbm, ⟨110, _⟩ => ⟨S720x361, .i32⟩
  | .hbm, ⟨111, _⟩ => ⟨S_, .i32⟩
  | .hbm, ⟨112, _⟩ => ⟨S720x361, .i32⟩
  | .hbm, ⟨113, _⟩ => ⟨S720x361, .i32⟩
  | .hbm, ⟨114, _⟩ => ⟨S720x361x1, .i32⟩
  | .hbm, ⟨115, _⟩ => ⟨S720x361, .f32⟩
  | .hbm, ⟨116, _⟩ => ⟨S361x720, .f32⟩
  | .hbm, ⟨117, _⟩ => ⟨S41088x720, .f32⟩
  | .hbm, ⟨118, _⟩ => ⟨S41088x720, .f32⟩
  | _, _ => ⟨S128x321x720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_values : Ref sig .tc := ⟨.hbm, 33, rfl⟩
abbrev main_indices : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_cst_13 : Ref sig .tc := ⟨.hbm, 86, rfl⟩
abbrev main_call0_v0 : Ref sig .tc := ⟨.hbm, 87, rfl⟩
abbrev main_call0_v1 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Proof.Words.lean ====
module

public import proofs.«01_k».proof.KernelIdeal
public import proofs.«01_k».proof.ReferenceIdeal
public import proofs.«01_k».proof.Pre_no_bias_and_no_tie
public import Idealize.ShloMosaic.Lib.Pointwise
public import Idealize.ShloMosaic.Lib.IdealHost

/-! # The four tables of words as extended reals

The reference holds four tables of 720 words: the real and imaginary parts of the roots of unity, and the same
divided by 720. The kernel holds six: the same four, and two more that are twice the last two. Here the words of one
program are compared with the words of the other, each table by one decision over its 720 entries, and the
comparison is carried to the values that the words stand for. -/

@[expose] public section

noncomputable section

namespace Cert.Words

open Idealize.ShloMosaic

/-- The values of the reference's tables: the real part of a root of unity, -/
def wre (k : Fin 720) : EReal := Ideal.ofBits .f32 (ReferenceIdeal.lit0 k)
/-- its imaginary part, -/
def wim (k : Fin 720) : EReal := Ideal.ofBits .f32 (ReferenceIdeal.lit1 k)
/-- the real part over 720 -/
def vre (k : Fin 720) : EReal := Ideal.ofBits .f32 (ReferenceIdeal.lit2 k)
/-- and the imaginary part over 720. -/
def vim (k : Fin 720) : EReal := Ideal.ofBits .f32 (ReferenceIdeal.lit3 k)

/-- A word whose exponent field is not all ones stands for a real number. -/
theorem ofBits_real (b : BitVec 32) (h : (b.extractLsb' 23 8).toNat ≠ 255) : ∃ r : ℝ, Ideal.ofBits .f32 b = (r : EReal) := by
  simp only [Ideal.ofBits, Ideal.ieee]
  rw [if_neg (by simpa using h)]
  split
  · exact ⟨_, rfl⟩
  · exact ⟨_, rfl⟩

/-- The value of a word whose exponent field is neither all ones nor all zeros. -/
theorem ofBits_normal (b : BitVec 32) (h : (b.extractLsb' 23 8).toNat ≠ 255) (h0 : (b.extractLsb' 23 8).toNat ≠ 0) :
    Ideal.ofBits .f32 b = (((if b.extractLsb' 31 1 == 1#1 then -1 else 1) * ((2 ^ 23 + (b.extractLsb' 0 23).toNat : ℕ) : ℝ)
      * 2 ^ (((b.extractLsb' 23 8).toNat : ℤ) - (2 ^ (8 - 1) - 1) - (23 : ℕ)) : ℝ) : EReal) := by
  simp only [Ideal.ofBits, Ideal.ieee]
  rw [if_neg (by simpa using h), if_neg h0]

/-- It is a real number other than zero. -/
theorem ofBits_ne_zero (b : BitVec 32) (h : (b.extractLsb' 23 8).toNat ≠ 255) (h0 : (b.extractLsb' 23 8).toNat ≠ 0) :
    ∃ r : ℝ, r ≠ 0 ∧ Ideal.ofBits .f32 b = (r : EReal) := by
  refine ⟨_, ?_, ofBits_normal b h h0⟩
  refine mul_ne_zero (mul_ne_zero ?_ ?_) (zpow_ne_zero _ two_ne_zero)
  · split <;> norm_num
  · positivity

/-- Two words with the same sign and the same fraction, the exponent field of one being one more than the other's: the
    one's value is twice the other's. -/
theorem ofBits_double (a b : BitVec 32) (hs : a.extractLsb' 31 1 = b.extractLsb' 31 1) (hf : a.extractLsb' 0 23 = b.extractLsb' 0 23)
    (he : (a.extractLsb' 23 8).toNat = (b.extractLsb' 23 8).toNat + 1) (h0 : (b.extractLsb' 23 8).toNat ≠ 0)
    (h1 : (a.extractLsb' 23 8).toNat ≠ 255) : Ideal.ofBits .f32 a = ((2 : ℝ) : EReal) * Ideal.ofBits .f32 b := by
  have hb : (b.extractLsb' 23 8).toNat ≠ 255 := by
    have := (a.extractLsb' 23 8).isLt
    omega
  rw [ofBits_normal a h1 (by omega), ofBits_normal b hb h0, ← EReal.coe_mul, hs, hf, he]
  congr 1
  have e : (((b.extractLsb' 23 8).toNat + 1 : ℕ) : ℤ) - (2 ^ (8 - 1) - 1) - (23 : ℕ)
      = (((b.extractLsb' 23 8).toNat : ℤ) - (2 ^ (8 - 1) - 1) - (23 : ℕ)) + 1 := by push_cast; ring
  rw [e, zpow_add_one₀ two_ne_zero]
  ring

/-- The words of zero, of either sign. -/
theorem ofBits_zero (b : BitVec 32) (h : b = 0#32 ∨ b = 0x80000000#32) : Ideal.ofBits .f32 b = 0 := by
  rcases h with rfl | rfl <;> simp [Ideal.ofBits, Ideal.ieee]

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem neg_one_eq : Ideal.ofBits .f32 0xBF800000#32 = ((-1 : ℝ) : EReal) := by
  simp [Ideal.ofBits, Ideal.ieee, -EReal.coe_mul]; norm_num

/-! ## The reference's values -/

theorem wre_words : ∀ k : Fin 720, ((ReferenceIdeal.lit0 k).extractLsb' 23 8).toNat ≠ 255 ∧ ((ReferenceIdeal.lit0 k).extractLsb' 23 8).toNat ≠ 0 := by
  decide +kernel
theorem wim_words : ∀ k : Fin 720, ((ReferenceIdeal.lit1 k).extractLsb' 23 8).toNat ≠ 255 := by decide +kernel

/-- No real part is zero. -/
theorem wre_ne_zero (k : Fin 720) : ∃ r : ℝ, r ≠ 0 ∧ wre k = (r : EReal) := ofBits_ne_zero _ (wre_words k).1 (wre_words k).2
theorem wim_real (k : Fin 720) : ∃ r : ℝ, wim k = (r : EReal) := ofBits_real _ (wim_words k)

/-! ## The kernel's values -/

theorem kernel_lit0 : ∀ k : Fin 720, KernelIdeal.lit0 k = ReferenceIdeal.lit0 k := by decide +kernel
theorem kernel_lit1 : ∀ k : Fin 720, KernelIdeal.lit1 k = ReferenceIdeal.lit1 k ∨
    (KernelIdeal.lit1 k = 0x80000000#32 ∧ ReferenceIdeal.lit1 k = 0#32) := by decide +kernel
theorem kernel_lit2 : ∀ k : Fin 720, KernelIdeal.lit2 k = ReferenceIdeal.lit2 k := by decide +kernel
theorem kernel_lit4 : ∀ k : Fin 720, KernelIdeal.lit4 k = ReferenceIdeal.lit3 k ∨
    (KernelIdeal.lit4 k = 0x80000000#32 ∧ ReferenceIdeal.lit3 k = 0#32) := by decide +kernel

/-- What `ofBits_double` asks of two words. -/
def Doubles (a b : BitVec 32) : Prop :=
  a.extractLsb' 31 1 = b.extractLsb' 31 1 ∧ a.extractLsb' 0 23 = b.extractLsb' 0 23
    ∧ (a.extractLsb' 23 8).toNat = (b.extractLsb' 23 8).toNat + 1 ∧ (b.extractLsb' 23 8).toNat ≠ 0 ∧ (a.extractLsb' 23 8).toNat ≠ 255

instance (a b : BitVec 32) : Decidable (Doubles a b) := by unfold Doubles; infer_instance

theorem Doubles.value {a b : BitVec 32} (h : Doubles a b) : Ideal.ofBits .f32 a = ((2 : ℝ) : EReal) * Ideal.ofBits .f32 b :=
  ofBits_double a b h.1 h.2.1 h.2.2.1 h.2.2.2.1 h.2.2.2.2

theorem kernel_lit3 : ∀ k : Fin 720, Doubles (KernelIdeal.lit3 k) (ReferenceIdeal.lit2 k) := by decide +kernel
theorem kernel_lit5 : ∀ k : Fin 720, Doubles (KernelIdeal.lit5 k) (ReferenceIdeal.lit3 k) ∨
    (KernelIdeal.lit5 k = 0x80000000#32 ∧ ReferenceIdeal.lit3 k = 0#32) := by decide +kernel

theorem kernel_wre (k : Fin 720) : Ideal.ofBits .f32 (KernelIdeal.lit0 k) = wre k := congrArg _ (kernel_lit0 k)
theorem kernel_wim (k : Fin 720) : Ideal.ofBits .f32 (KernelIdeal.lit1 k) = wim k := by
  rcases kernel_lit1 k with h | ⟨h, h'⟩
  · exact congrArg _ h
  · rw [wim, h, h', ofBits_zero _ (.inl rfl), ofBits_zero _ (.inr rfl)]
theorem kernel_vre (k : Fin 720) : Ideal.ofBits .f32 (KernelIdeal.lit2 k) = vre k := congrArg _ (kernel_lit2 k)
theorem kernel_vim (k : Fin 720) : Ideal.ofBits .f32 (KernelIdeal.lit4 k) = vim k := by
  rcases kernel_lit4 k with h | ⟨h, h'⟩
  · exact congrArg _ h
  · rw [vim, h, h', ofBits_zero _ (.inl rfl), ofBits_zero _ (.inr rfl)]
theorem kernel_vre2 (k : Fin 720) : Ideal.ofBits .f32 (KernelIdeal.lit3 k) = ((2 : ℝ) : EReal) * vre k := (kernel_lit3 k).value
theorem kernel_vim2 (k : Fin 720) : Ideal.ofBits .f32 (KernelIdeal.lit5 k) = ((2 : ℝ) : EReal) * vim k := by
  rcases kernel_lit5 k with h | ⟨h, h'⟩
  · exact h.value
  · rw [vim, h, h', ofBits_zero _ (.inl rfl), ofBits_zero _ (.inr rfl), mul_zero]

/-! ## The precondition's words are the reference's -/

theorem pre_lit0 : ∀ k : Fin 720, Pre_no_bias_and_no_tie.lit0 k = ReferenceIdeal.lit0 k := by decide +kernel
theorem pre_lit1 : ∀ k : Fin 720, Pre_no_bias_and_no_tie.lit1 k = ReferenceIdeal.lit1 k := by decide +kernel

end Cert.Words

end
-- ==== Proof.Strip.lean ====
module

public import proofs.«01_k».proof.Proof.Words

/-! # Stripping the maximum off a row, again and again

The kernel finds the 36 greatest entries of a row without sorting it: it takes the row's maximum, replaces every entry
that reaches it by minus one, and repeats. Where the entries have ranks, the greatest rank 0, and each of the first 36
is strictly greater than all that rank after it, what stands after `i` rounds is the row with minus one at the entries
that rank below `i`; so the maximum then is the entry of rank `i`, and halfway between the 36th and the 37th greatest
entry lies a threshold that the entries of the first 36 ranks exceed and no other does. -/

@[expose] public section

noncomputable section

namespace Cert.Strip

open Idealize.ShloMosaic

/-- The maximum of a row. -/
def top {n : ℕ} (s : Fin n → EReal) : EReal := Finset.univ.fold max ⊥ s

/-- One round: minus one at every entry that reaches the maximum. -/
def strip {n : ℕ} (s : Fin n → EReal) : Fin n → EReal := fun f => if top s ≤ s f then ((-1 : ℝ) : EReal) else s f

theorem le_top {n : ℕ} (s : Fin n → EReal) (f : Fin n) : s f ≤ top s :=
  (Finset.le_fold_max _).mpr (.inr ⟨f, Finset.mem_univ f, le_rfl⟩)

/-- An entry that no other exceeds is the maximum. -/
theorem top_eq {n : ℕ} (s : Fin n → EReal) (p : Fin n) (h : ∀ f, s f ≤ s p) : top s = s p :=
  le_antisymm ((Finset.fold_max_le _).mpr ⟨bot_le, fun f _ => h f⟩) (le_top s p)

/-- A row with ranks: `rank` tells the entries apart, every rank up to `k` is taken, a lower rank means a greater entry,
    strictly for the ranks below `k`, no entry lies below minus one, and the entries of rank up to `k` are real numbers. -/
structure Ranked {n : ℕ} (k : ℕ) (s : Fin n → EReal) (rank : Fin n → ℕ) : Prop where
  inj : ∀ f g, rank f = rank g → f = g
  taken : ∀ i, i ≤ k → ∃ f, rank f = i
  anti : ∀ f g, rank f < rank g → s g ≤ s f
  strict : ∀ f g, rank f < k → rank f < rank g → s g < s f
  low : ∀ f, ((-1 : ℝ) : EReal) ≤ s f
  real : ∀ f, rank f ≤ k → ∃ r : ℝ, s f = (r : EReal)

/-- The row after `i` rounds. -/
def stage {n : ℕ} (s : Fin n → EReal) (rank : Fin n → ℕ) (i : ℕ) : Fin n → EReal :=
  fun f => if rank f < i then ((-1 : ℝ) : EReal) else s f

variable {n k : ℕ} {s : Fin n → EReal} {rank : Fin n → ℕ}

/-- Its maximum is the entry of rank `i`. -/
theorem Ranked.top_stage (h : Ranked k s rank) {i : ℕ} (hi : i ≤ k) {p : Fin n} (hp : rank p = i) :
    top (stage s rank i) = s p := by
  have e : stage s rank i p = s p := if_neg (by omega)
  rw [← e]
  refine top_eq _ p fun f => ?_
  rw [e, stage]
  split_ifs with hf
  · exact h.low p
  · rcases Nat.lt_or_eq_of_le (not_lt.mp hf) with hlt | heq
    · exact h.anti p f (by omega)
    · rw [h.inj f p (by omega)]

/-- One more round takes the entry of rank `i`, and no other. -/
theorem Ranked.strip_stage (h : Ranked k s rank) {i : ℕ} (hi : i < k) : strip (stage s rank i) = stage s rank (i + 1) := by
  obtain ⟨p, hp⟩ := h.taken i hi.le
  funext f
  rw [strip, h.top_stage hi.le hp]
  rcases lt_trichotomy (rank f) i with hf | hf | hf
  · rw [show stage s rank i f = ((-1 : ℝ) : EReal) from if_pos hf, show stage s rank (i + 1) f = ((-1 : ℝ) : EReal) from if_pos (by omega)]
    exact ite_self _
  · rw [show stage s rank i f = s f from if_neg (by omega), show stage s rank (i + 1) f = ((-1 : ℝ) : EReal) from if_pos (by omega),
      h.inj f p (by omega)]
    exact if_pos le_rfl
  · rw [show stage s rank i f = s f from if_neg (by omega), show stage s rank (i + 1) f = s f from if_neg (by omega)]
    exact if_neg (not_le.mpr (h.strict p f (by omega) (by omega)))

theorem Ranked.iterate (h : Ranked k s rank) : ∀ i, i ≤ k → strip^[i] s = stage s rank i
  | 0, _ => funext fun f => (if_neg (by omega)).symm
  | i + 1, hi => by rw [Function.iterate_succ_apply', h.iterate i (by omega), h.strip_stage hi]

/-- The threshold: halfway between the maximum after `k - 1` rounds and the one after `k`. -/
def threshold (k : ℕ) (s : Fin n → EReal) : EReal :=
  ((1 / 2 : ℝ) : EReal) * (top (strip^[k] s) + top (strip (strip^[k] s)))

/-- The entries above it are those of the first ranks. -/
theorem Ranked.above (h : Ranked (k + 1) s rank) (f : Fin n) : threshold k s < s f ↔ rank f < k + 1 := by
  obtain ⟨p, hp⟩ := h.taken k (by omega)
  obtain ⟨q, hq⟩ := h.taken (k + 1) le_rfl
  obtain ⟨a, ea⟩ := h.real p (by omega)
  obtain ⟨b, eb⟩ := h.real q (by omega)
  have hab : b < a := by
    have := h.strict p q (by omega) (by omega)
    rw [ea, eb] at this
    exact EReal.coe_lt_coe_iff.mp this
  rw [threshold, ← Function.iterate_succ_apply' strip k s, h.iterate k (by omega), h.iterate (k + 1) le_rfl, h.top_stage (by omega) hp,
    h.top_stage le_rfl hq, ea, eb, ← EReal.coe_add, ← EReal.coe_mul]
  constructor
  · intro hf
    by_contra hr
    have : s f ≤ (b : EReal) := by
      rw [← eb]
      rcases Nat.lt_or_eq_of_le (not_lt.mp hr) with hlt | heq
      · exact h.anti q f (by omega)
      · rw [h.inj f q (by omega)]
    have := EReal.coe_lt_coe_iff.mp (hf.trans_le this)
    linarith
  · intro hf
    have : (a : EReal) ≤ s f := by
      rw [← ea]
      rcases Nat.lt_or_eq_of_le (Nat.le_of_lt_succ hf) with hlt | heq
      · exact h.anti f p (by omega)
      · rw [h.inj f p (by omega)]
    exact (EReal.coe_lt_coe_iff.mpr (by linarith)).trans_le this

end Cert.Strip

end
-- ==== Proof.Spectrum.lean ====
module

public import proofs.«01_k».proof.Proof.Strip

/-! # One row, in both programs

The reference transforms a row of 720 numbers to 361 complex ones, sorts their amplitudes, passes the 36 greatest
through a small network, sets the others to zero, and transforms amplitude and angle back. The kernel never takes a
square root or an angle: it thresholds the squared amplitudes, and multiplies the complex numbers that pass by one
number, since the network without biases maps a nonnegative amplitude to that number times the amplitude. -/

@[expose] public section

noncomputable section

namespace Cert.Spectrum

open Idealize.ShloMosaic Cert.Words Cert.Strip

/-- Which of the 720 roots of unity stands at time `t` and frequency `f`. -/
def root (t f : ℕ) : Fin 720 := ⟨t * f % 720, Nat.mod_lt _ (by norm_num)⟩

/-! ## The reference's row -/

/-- The real part of frequency `f` of the row `x`, -/
def re (x : Fin 720 → EReal) (f : ℕ) : EReal := ∑ t : Fin 720, x t * wre (root t f)
/-- its imaginary part, -/
def im (x : Fin 720 → EReal) (f : ℕ) : EReal := ∑ t : Fin 720, x t * wim (root t f)
/-- its squared amplitude -/
def power (x : Fin 720 → EReal) (f : ℕ) : EReal := re x f * re x f + im x f * im x f
/-- and its amplitude. -/
def amp (x : Fin 720 → EReal) (f : ℕ) : EReal := Ideal.sqrt (power x f)

/-- The network, its biases zero. -/
def net (w1 w2 : Fin 16 → EReal) (a : EReal) : EReal := ∑ i, max (a * w1 i) 0 * w2 i

/-- The amplitude the network leaves at frequency `f`, whose rank among the amplitudes is `r`. -/
def kept (w1 w2 : Fin 16 → EReal) (x : Fin 720 → EReal) (f r : ℕ) : EReal := if r < 36 then net w1 w2 (amp x f) else 0

/-- The weight of frequency `f` in the inverse transform: the two ends count once, the others stand for two. -/
def weight (f : ℕ) : EReal := if f = 0 ∨ f = 360 then ((1 : ℝ) : EReal) else ((2 : ℝ) : EReal)

/-- The reference's result at time `l`. -/
def refRow (w1 w2 : Fin 16 → EReal) (x : Fin 720 → EReal) (rank : Fin 361 → ℕ) (l : Fin 720) : EReal :=
  (∑ f : Fin 361, kept w1 w2 x f (rank f) * Ideal.cos (Ideal.atan2 (im x f) (re x f)) * weight f * vre (root l f))
  + ∑ f : Fin 361, kept w1 w2 x f (rank f) * Ideal.sin (Ideal.atan2 (im x f) (re x f)) * weight f * vim (root l f)

/-! ## The kernel's row -/

/-- The kernel's factor: the sum over the network's 16 cells. -/
def factor (w1 w2 : Fin 16 → EReal) : EReal := ∑ i, w2 i * max (w1 i) 0

/-- The kernel's squared amplitudes: its frequencies are padded to 384, the padding at minus one. -/
def padded (x : Fin 720 → EReal) (f : Fin 384) : EReal := if f.val < 361 then power x f else ((-1 : ℝ) : EReal)

/-- The kernel's result at time `l`. -/
def kernelRow (w1 w2 : Fin 16 → EReal) (x : Fin 720 → EReal) (l : Fin 720) : EReal :=
  (∑ f : Fin 384, if threshold 35 (padded x) < padded x f
    then (if f.val < 361 then re x f else 0) * factor w1 w2 * (if f.val < 361 then weight f * vre (root l f) else 0) else 0)
  + ∑ f : Fin 384, if threshold 35 (padded x) < padded x f
    then (if f.val < 361 then im x f else 0) * factor w1 w2 * (if f.val < 361 then weight f * vim (root l f) else 0) else 0

/-! ## A real row -/

/-- A sum of reals, each taken as an extended real, is the sum as a real. -/
theorem coe_sum {ι : Type*} (s : Finset ι) (g : ι → ℝ) : ∑ t ∈ s, (g t : EReal) = ((∑ t ∈ s, g t : ℝ) : EReal) := by
  classical
  induction s using Finset.induction_on with
  | empty => simp
  | insert a s ha ih => rw [Finset.sum_insert ha, Finset.sum_insert ha, ih, EReal.coe_add]

/-- A row of reals has real transforms. -/
theorem re_im_real (x : Fin 720 → EReal) (hx : ∀ t, ∃ r : ℝ, x t = (r : EReal)) (f : ℕ) :
    ∃ a b : ℝ, re x f = (a : EReal) ∧ im x f = (b : EReal) := by
  choose y hy using hx
  choose c _ hc using wre_ne_zero
  choose d hd using wim_real
  refine ⟨∑ t, y t * c (root t f), ∑ t, y t * d (root t f), ?_, ?_⟩
  · rw [re, ← coe_sum]
    exact Finset.sum_congr rfl fun t _ => by rw [hy, hc, EReal.coe_mul]
  · rw [im, ← coe_sum]
    exact Finset.sum_congr rfl fun t _ => by rw [hy, hd, EReal.coe_mul]

/-- Infinite: one of the two ends. -/
def Inf (e : EReal) : Prop := e = ⊤ ∨ e = ⊥

theorem inf_or_real (e : EReal) : Inf e ∨ ∃ r : ℝ, e = (r : EReal) := by
  induction e with
  | bot => exact .inl (.inr rfl)
  | top => exact .inl (.inl rfl)
  | coe r => exact .inr ⟨r, rfl⟩

/-- A sum with an infinite summand is infinite: infinities of opposite signs sum to minus infinity. -/
theorem inf_add {a b : EReal} (h : Inf a ∨ Inf b) : Inf (a + b) := by
  rcases inf_or_real a with (rfl | rfl) | ⟨r, rfl⟩ <;> rcases inf_or_real b with (rfl | rfl) | ⟨q, rfl⟩ <;> simp_all [Inf]

theorem inf_sum {ι : Type*} (s : Finset ι) (g : ι → EReal) (h : ∃ t ∈ s, Inf (g t)) : Inf (∑ t ∈ s, g t) := by
  classical
  induction s using Finset.induction_on with
  | empty => simp at h
  | insert a s ha ih =>
    rw [Finset.sum_insert ha]
    obtain ⟨t, ht, hi⟩ := h
    rcases Finset.mem_insert.mp ht with rfl | ht
    · exact inf_add (.inl hi)
    · exact inf_add (.inr (ih ⟨t, ht, hi⟩))

theorem inf_mul {a : EReal} (h : Inf a) {r : ℝ} (hr : r ≠ 0) : Inf (a * (r : EReal)) := by
  rcases h with rfl | rfl <;> rcases lt_or_gt_of_ne hr with hn | hp
  · exact .inr (EReal.top_mul_coe_of_neg hn)
  · exact .inl (EReal.top_mul_coe_of_pos hp)
  · exact .inl (EReal.bot_mul_coe_of_neg hn)
  · exact .inr (EReal.bot_mul_coe_of_pos hp)

theorem mul_self_nonneg' (a : EReal) : 0 ≤ a * a := by
  rcases le_total 0 a with h | h
  · exact mul_nonneg h h
  · exact EReal.mul_nonneg_iff.mpr (.inr ⟨h, h⟩)

theorem inf_mul_self {a : EReal} (h : Inf a) : a * a = ⊤ := by
  rcases h with rfl | rfl <;> rfl

/-- An infinite entry makes every amplitude infinite, since no root of unity has real part zero. -/
theorem amp_top (x : Fin 720 → EReal) {t : Fin 720} (h : Inf (x t)) (f : ℕ) : amp x f = ⊤ := by
  have hre : Inf (re x f) := inf_sum _ _ ⟨t, Finset.mem_univ t, by
    obtain ⟨r, hr, e⟩ := wre_ne_zero (root t f)
    rw [e]
    exact inf_mul h hr⟩
  rw [amp, power, inf_mul_self hre, EReal.top_add_of_ne_bot (ne_of_gt (EReal.bot_lt_zero.trans_le (mul_self_nonneg' _)))]
  rfl

/-- So where two amplitudes differ in order the row is real. -/
theorem real_of_amp_lt (x : Fin 720 → EReal) {f g : ℕ} (h : amp x f < amp x g) (t : Fin 720) : ∃ r : ℝ, x t = (r : EReal) := by
  rcases inf_or_real (x t) with hi | hr
  · rw [amp_top x hi f, amp_top x hi g] at h
    exact absurd h (lt_irrefl _)
  · exact hr

/-! ## Amplitude and angle of a real point -/

theorem squares (a b : ℝ) : 0 ≤ a * a + b * b := add_nonneg (mul_self_nonneg a) (mul_self_nonneg b)

theorem sqrt_real {r : ℝ} (h : 0 ≤ r) : Ideal.sqrt (r : EReal) = (Real.sqrt r : EReal) := by
  rw [Ideal.sqrt_coe, if_neg (not_lt.mpr h)]

/-- The amplitude times the cosine and the sine of the angle are the point's coordinates. -/
theorem polar (a b : ℝ) : ∃ φ : ℝ, Ideal.atan2 (b : EReal) (a : EReal) = (φ : EReal)
    ∧ Real.sqrt (a * a + b * b) * Real.cos φ = a ∧ Real.sqrt (a * a + b * b) * Real.sin φ = b := by
  have key : a ≠ 0 → Real.sqrt (a * a + b * b) = |a| * Real.sqrt (1 + (b / a) ^ 2) := fun ha => by
    rw [← Real.sqrt_sq_eq_abs, ← Real.sqrt_mul (sq_nonneg a)]
    congr 1
    field_simp
  have pos : Real.sqrt (1 + (b / a) ^ 2) ≠ 0 := (Real.sqrt_pos.mpr (by positivity)).ne'
  have hc : a ≠ 0 → Real.sqrt (a * a + b * b) * Real.cos (Real.arctan (b / a)) = |a| := fun ha => by
    rw [key ha, Real.cos_arctan]
    field_simp
  have hs : a ≠ 0 → Real.sqrt (a * a + b * b) * Real.sin (Real.arctan (b / a)) = |a| * (b / a) := fun ha => by
    rw [key ha, Real.sin_arctan]
    field_simp
  refine ⟨_, rfl, ?_⟩
  rcases lt_trichotomy a 0 with ha | ha | ha
  · rw [if_neg (not_lt.mpr ha.le), if_pos ha]
    have e : |a| = -a := abs_of_neg ha
    split_ifs with hb
    · rw [Real.cos_add_pi, Real.sin_add_pi, mul_neg, mul_neg, hc ha.ne, hs ha.ne, e]
      exact ⟨neg_neg a, by field_simp [ha.ne]⟩
    · rw [Real.cos_sub_pi, Real.sin_sub_pi, mul_neg, mul_neg, hc ha.ne, hs ha.ne, e]
      exact ⟨neg_neg a, by field_simp [ha.ne]⟩
  · subst ha
    have e : Real.sqrt (0 * 0 + b * b) = |b| := by rw [zero_mul, zero_add, Real.sqrt_mul_self_eq_abs]
    rw [if_neg (lt_irrefl _), if_neg (lt_irrefl _), e]
    rcases lt_trichotomy b 0 with hb | hb | hb
    · rw [if_neg (not_lt.mpr hb.le), if_pos hb, Real.cos_neg, Real.sin_neg, Real.cos_pi_div_two, Real.sin_pi_div_two, abs_of_neg hb]
      constructor <;> ring
    · subst hb
      simp
    · rw [if_pos hb, Real.cos_pi_div_two, Real.sin_pi_div_two, abs_of_pos hb]
      constructor <;> ring
  · rw [if_pos ha, hc ha.ne', hs ha.ne', abs_of_pos ha]
    exact ⟨rfl, by field_simp [ha.ne']⟩

/-! ## The network without biases is a factor -/

theorem max_mul {r : ℝ} (hr : 0 ≤ r) (w : EReal) : max ((r : EReal) * w) 0 = (r : EReal) * max w 0 := by
  have h0 : (0 : EReal) ≤ (r : EReal) := EReal.coe_nonneg.mpr hr
  rcases le_total 0 w with h | h
  · rw [max_eq_left h, max_eq_left (mul_nonneg h0 h)]
  · rw [max_eq_right h, mul_zero, max_eq_right (EReal.mul_nonpos_iff.mpr (.inl ⟨h0, h⟩))]

/-- A nonnegative real distributes over a sum of extended reals, whatever they are. -/
theorem mul_sum {ι : Type*} (s : Finset ι) {r : ℝ} (hr : 0 ≤ r) (g : ι → EReal) : ∑ i ∈ s, (r : EReal) * g i = (r : EReal) * ∑ i ∈ s, g i := by
  classical
  induction s using Finset.induction_on with
  | empty => simp
  | insert a s ha ih =>
    rw [Finset.sum_insert ha, Finset.sum_insert ha, ih, EReal.left_distrib_of_nonneg_of_ne_top (EReal.coe_nonneg.mpr hr) (EReal.coe_ne_top r)]

theorem net_eq (w1 w2 : Fin 16 → EReal) {r : ℝ} (hr : 0 ≤ r) : net w1 w2 (r : EReal) = (r : EReal) * factor w1 w2 := by
  rw [net, factor, ← mul_sum _ hr]
  exact Finset.sum_congr rfl fun i _ => by rw [max_mul hr, mul_assoc, mul_comm (max _ _)]

/-! ## The ranks -/

/-- The kernel's ranks: a true frequency's rank is the reference's, and the padding comes after, in its own order. -/
def padRank (rank : Fin 361 → ℕ) (f : Fin 384) : ℕ := if h : f.val < 361 then rank ⟨f, h⟩ else f

theorem padRank_true (rank : Fin 361 → ℕ) (f : Fin 361) : padRank rank (f.castLE (by norm_num)) = rank f := dif_pos f.isLt

/-- The ranks that a sort's permutation gives. -/
structure Sorted (x : Fin 720 → EReal) (rank : Fin 361 → ℕ) : Prop where
  lt : ∀ f, rank f < 361
  inj : ∀ f g, rank f = rank g → f = g
  taken : ∀ i, i < 361 → ∃ f, rank f = i
  anti : ∀ f g, rank f < rank g → amp x g ≤ amp x f
  strict : ∀ f g, rank f < 36 → rank f < rank g → amp x g < amp x f

/-- Where the row is real, the amplitude's order is the squared amplitude's. -/
theorem amp_lt (x : Fin 720 → EReal) (hx : ∀ t, ∃ r : ℝ, x t = (r : EReal)) (f g : ℕ) : amp x f < amp x g ↔ power x f < power x g := by
  obtain ⟨a, b, ea, eb⟩ := re_im_real x hx f
  obtain ⟨c, d, ec, ed⟩ := re_im_real x hx g
  simp only [amp, power, ea, eb, ec, ed, ← EReal.coe_mul, ← EReal.coe_add]
  rw [sqrt_real (squares a b), sqrt_real (squares c d), EReal.coe_lt_coe_iff, EReal.coe_lt_coe_iff, Real.sqrt_lt_sqrt_iff (squares a b)]

theorem amp_le (x : Fin 720 → EReal) (hx : ∀ t, ∃ r : ℝ, x t = (r : EReal)) (f g : ℕ) : amp x f ≤ amp x g ↔ power x f ≤ power x g := by
  rw [← not_lt, amp_lt x hx, not_lt]

theorem Sorted.real {x : Fin 720 → EReal} {rank : Fin 361 → ℕ} (h : Sorted x rank) (t : Fin 720) : ∃ r : ℝ, x t = (r : EReal) := by
  obtain ⟨f, hf⟩ := h.taken 0 (by norm_num)
  obtain ⟨g, hg⟩ := h.taken 1 (by norm_num)
  exact real_of_amp_lt x (h.strict f g (by omega) (by omega)) t

theorem power_real (x : Fin 720 → EReal) (hx : ∀ t, ∃ r : ℝ, x t = (r : EReal)) (f : ℕ) : ∃ r : ℝ, 0 ≤ r ∧ power x f = (r : EReal) := by
  obtain ⟨a, b, ea, eb⟩ := re_im_real x hx f
  exact ⟨a * a + b * b, squares a b, by rw [power, ea, eb, EReal.coe_add, EReal.coe_mul, EReal.coe_mul]⟩

theorem Sorted.ranked {x : Fin 720 → EReal} {rank : Fin 361 → ℕ} (h : Sorted x rank) : Ranked 36 (padded x) (padRank rank) := by
  have hx := h.real
  have hp : ∀ f : Fin 384, ∀ hf : f.val < 361, padRank rank f = rank ⟨f, hf⟩ := fun f hf => dif_pos hf
  have hq : ∀ f : Fin 384, ¬f.val < 361 → padRank rank f = f := fun f hf => dif_neg hf
  have sp : ∀ f : Fin 384, f.val < 361 → padded x f = power x f := fun f hf => if_pos hf
  have sq : ∀ f : Fin 384, ¬f.val < 361 → padded x f = ((-1 : ℝ) : EReal) := fun f hf => if_neg hf
  have low : ∀ f : ℕ, ((-1 : ℝ) : EReal) < power x f := fun f => by
    obtain ⟨r, hr, e⟩ := power_real x hx f
    rw [e]
    exact EReal.coe_lt_coe_iff.mpr (by linarith)
  constructor
  · intro f g e
    by_cases hf : f.val < 361 <;> by_cases hg : g.val < 361
    · rw [hp f hf, hp g hg] at e
      exact Fin.ext (Fin.mk.inj (h.inj _ _ e))
    · rw [hp f hf, hq g hg] at e
      have := h.lt ⟨f, hf⟩
      omega
    · rw [hq f hf, hp g hg] at e
      have := h.lt ⟨g, hg⟩
      omega
    · rw [hq f hf, hq g hg] at e
      exact Fin.ext e
  · intro i hi
    obtain ⟨f, hf⟩ := h.taken i (by omega)
    exact ⟨f.castLE (by norm_num), (padRank_true rank f).trans hf⟩
  · intro f g e
    by_cases hf : f.val < 361 <;> by_cases hg : g.val < 361
    · rw [hp f hf, hp g hg] at e
      rw [sp f hf, sp g hg]
      exact (amp_le x hx g f).mp (h.anti ⟨f, hf⟩ ⟨g, hg⟩ e)
    · rw [sp f hf, sq g hg]
      exact (low f).le
    · rw [hq f hf, hp g hg] at e
      have := h.lt ⟨g, hg⟩
      omega
    · rw [sq f hf, sq g hg]
  · intro f g hk e
    by_cases hf : f.val < 361 <;> by_cases hg : g.val < 361
    · rw [hp f hf, hp g hg] at e
      rw [hp f hf] at hk
      rw [sp f hf, sp g hg]
      exact (amp_lt x hx g f).mp (h.strict ⟨f, hf⟩ ⟨g, hg⟩ hk e)
    · rw [sp f hf, sq g hg]
      exact low f
    · rw [hq f hf] at hk
      omega
    · rw [hq f hf] at hk
      omega
  · intro f
    by_cases hf : f.val < 361
    · rw [sp f hf]
      exact (low f).le
    · rw [sq f hf]
  · intro f hk
    by_cases hf : f.val < 361
    · obtain ⟨r, _, e⟩ := power_real x hx f
      exact ⟨r, (sp f hf).trans e⟩
    · exact ⟨-1, sq f hf⟩

/-! ## The two rows are one -/

/-- A sum over 384 places whose summands vanish from place 361 on. -/
theorem sum_pad (g : Fin 384 → EReal) (h : ∀ f, ¬f.val < 361 → g f = 0) : ∑ f, g f = ∑ f : Fin 361, g (f.castLE (by norm_num)) := by
  have e := Fin.sum_univ_add (a := 361) (b := 23) g
  rw [e, Finset.sum_eq_zero (s := (Finset.univ : Finset (Fin 23))), add_zero]
  · rfl
  · intro i _
    exact h _ (by simp)

/-- One summand: amplitude `a` and angle's cosine or sine `q` against the coordinate `p` they make. -/
theorem scaled {a q p : EReal} (c w v : EReal) (h : a * q = p) : a * c * q * w * v = p * c * (w * v) := by
  rw [mul_right_comm a c q, h, mul_assoc (p * c)]

theorem row_eq (w1 w2 : Fin 16 → EReal) (x : Fin 720 → EReal) (rank : Fin 361 → ℕ) (h : Sorted x rank) (l : Fin 720) :
    kernelRow w1 w2 x l = refRow w1 w2 x rank l := by
  have hx := h.real
  have habove : ∀ f : Fin 384, threshold 35 (padded x) < padded x f ↔ padRank rank f < 36 := fun f => h.ranked.above f
  have hpad : ∀ f : Fin 384, ¬f.val < 361 → ¬padRank rank f < 36 := fun f hf => by
    rw [padRank, dif_neg hf]
    omega
  rw [kernelRow, refRow, sum_pad _ fun f hf => if_neg fun hc => hpad f hf ((habove f).mp hc),
    sum_pad _ fun f hf => if_neg fun hc => hpad f hf ((habove f).mp hc)]
  have hr := padRank_true rank
  congr 1 <;> refine Finset.sum_congr rfl fun f _ => ?_
  all_goals
    rw [kept]
    by_cases hk : rank f < 36
    · rw [if_pos ((habove _).mpr (by rw [hr]; exact hk)), if_pos hk, Fin.val_castLE, if_pos f.isLt, if_pos f.isLt]
      obtain ⟨a, b, ea, eb⟩ := re_im_real x hx f
      obtain ⟨φ, eφ, hcos, hsin⟩ := polar a b
      have eamp : amp x f = (Real.sqrt (a * a + b * b) : EReal) := by
        rw [amp, power, ea, eb, ← EReal.coe_mul, ← EReal.coe_mul, ← EReal.coe_add, sqrt_real (squares a b)]
      rw [eamp, net_eq w1 w2 (Real.sqrt_nonneg _), ea, eb, eφ]
      first
        | exact (scaled _ _ _ ((EReal.coe_mul _ _).symm.trans (congrArg _ hcos))).symm
        | exact (scaled _ _ _ ((EReal.coe_mul _ _).symm.trans (congrArg _ hsin))).symm
    · rw [if_neg fun hc => hk (by rw [← hr]; exact (habove _).mp hc), if_neg hk, zero_mul, zero_mul, zero_mul]

end Cert.Spectrum

end
-- ==== Proof.Tables.lean ====
module

public import proofs.«01_k».proof.Proof.Spectrum
public import Idealize.ShloMosaic.Lib.ValueIdxCore
public import Idealize.ShloMosaic.Lib.Routing.Words
public import Idealize.ShloMosaic.Lib.Pointwise
public import Idealize.ShloMosaic.Lib.Pointwise.Reshape

/-! # Reading a table of roots at time and frequency

Both programs, and the precondition, spread a table of 720 words over times and frequencies by a gather at the
product of time and frequency modulo 720. Here the gather is read at an index, for any number of frequencies up to
720. -/

@[expose] public section

noncomputable section

namespace Cert.Tables

open Idealize.ShloMosaic Cert.Spectrum

/-- A choice by a one-bit word that stands for a condition. -/
theorem select_of {α : Type} {b : BitVec 1} {p : Prop} [Decidable p] (h : b = 1#1 ↔ p) (x y : α) : Scalar.select b x y = if p then x else y := by
  unfold Scalar.select
  by_cases hp : p
  · rw [if_pos hp]
    exact if_pos (h.mpr hp)
  · rw [if_neg hp]
    exact if_neg fun e => hp (h.mp e)

/-- The word of the product, modulo 720. -/
theorem root_word (t f : ℕ) (ht : t < 720) (hf : f < 720) :
    IntOp.remsi .host (BitVec.ofNat 32 t * BitVec.ofNat 32 f) 720#32 = BitVec.ofNat 32 (t * f % 720) := by
  have hb : t * f < 2 ^ 31 := lt_of_le_of_lt (Nat.mul_le_mul (show t ≤ 720 by omega) (show f ≤ 720 by omega)) (by norm_num)
  rw [← BitVec.ofNat_mul, Routing.remsi_word _ hb (by norm_num) (by norm_num)]

/-- The gather at time `t` and frequency `f`, its start index there being the product modulo 720. -/
theorem gather_root {C : ℕ} {α : Type} (wf : GatherDims.WF ⟨1, ![720]⟩ ⟨3, ![720, C, 1]⟩ ⟨2, ![720, C]⟩ [] [0] [] [0] [] 2 ![1])
    (g : Fin (⟨1, ![720]⟩ : Shape).numel → α) (idx : IVec ⟨3, ![720, C, 1]⟩ 32) (t : Fin 720) (f : Fin C)
    (h : idx (ix3 t f 0) = BitVec.ofNat 32 (t * f % 720)) :
    Host.gather (ValueIdx.takeDims 720 720 C wf) (fun i => g ((⟨1, ![720]⟩ : Shape).rowMajor i)) idx (ix2 t f)
      = g ⟨t * f % 720, by exact (root t f).isLt⟩ := by
  rw [ValueIdx.gather_take_apply (by norm_num)]
  congr 1
  refine Fin.ext ?_
  rw [rowMajor_val1]
  have e : ValueIdx.takeIdx (R := 720) (C := C) (ix2 t f) = ix3 t f 0 := by
    funext a
    match a with
    | ⟨0, _⟩ => rfl
    | ⟨1, _⟩ => rfl
    | ⟨2, _⟩ => rfl
  have hm : (t : ℕ) * f % 720 < 720 := Nat.mod_lt _ (by norm_num)
  show min (BitVec.toInt (idx _)).toNat (720 - 1) = (t : ℕ) * f % 720
  rw [e, h, BitVec.toInt_eq_toNat_of_lt (by rw [BitVec.toNat_ofNat]; omega), BitVec.toNat_ofNat]
  omega

end Cert.Tables

end
-- ==== Proof.Operands.lean ====
module

public import proofs.«01_k».proof.Proof.Gen.KernelIdeal.Value
public import proofs.«01_k».proof.Proof.Tables
public import Idealize.ShloMosaic.Lib.Pipeline.ValueKit
public import Idealize.ShloMosaic.Lib.StableHlo.ReadAt

/-! # What the kernel's launch stages

The six arrays the kernel's region reads, each read at an index: the rows of the input, the two tables of the forward
transform, the two of the inverse transform with the frequencies' weights in them, and the network's two weight rows. -/

@[expose] public section

set_option maxRecDepth 16384

noncomputable section

namespace Cert.KernelIdeal.Operands

open Cert.KernelIdeal Cert.KernelIdeal.Gen Idealize.ShloMosaic Idealize.ShloMosaic.TcCoe Cert.Spectrum Cert.Words Cert.Tables

theorem slt_361 (f : Fin 384) : IntOp.cmpi .slt (BitVec.ofNat 32 f.val) 361#32 = 1#1 ↔ f.val < 361 := by
  revert f
  decide +kernel

theorem ends (f : Fin 384) : IntOp.ori (IntOp.cmpi .eq (BitVec.ofNat 32 f.val) 0#32) (IntOp.cmpi .eq (BitVec.ofNat 32 f.val) 360#32) = 1#1
    ↔ f.val = 0 ∨ f.val = 360 := by
  revert f
  decide +kernel

/-- The zero a chosen word falls back to. -/
theorem zero_word : id (constant (F := Ideal) S_ FTy.f32 0#32) ix0 = (0 : EReal) := Ideal.ofBits_zero_f32

/-- The start indices of the kernel's gathers. -/
theorem start (t : Fin 720) (f : Fin 384) :
    broadcastInDim S720x384x1 ![0, 1] bcast_S720x384_S720x384x1_0_1
      (Host.remsi (muli (iotaInDim S720x384 32 0) (iotaInDim S720x384 32 1)) (broadcastInDim S720x384 ![] bcast_S_S720x384 (constantI S_ 32 720#32)))
      (ix3 t f 0) = BitVec.ofNat 32 (t * f % 720) := by
  pointwise
  exact Tables.root_word t f t.isLt (by omega)

/-- A gather of the kernel's at time `t` and frequency `f`. -/
theorem table (g : Fin 720 → EReal) (t : Fin 720) (f : Fin 384) :
    Host.gather gather_S720_S720x384x1_S720x384_n_0_n_n_0_2_1 (fun i => g (S720.rowMajor i))
      (broadcastInDim S720x384x1 ![0, 1] bcast_S720x384_S720x384x1_0_1
        (Host.remsi (muli (iotaInDim S720x384 32 0) (iotaInDim S720x384 32 1)) (broadcastInDim S720x384 ![] bcast_S_S720x384 (constantI S_ 32 720#32))))
      (ix2 t f) = g (root t f) :=
  Tables.gather_root _ _ _ t f (start t f)

variable (m : (ℓ : Loc nD τ sig) → Buf (Elt Ideal) ℓ) (c : Dev nD)

/-- The forward table of real parts: -/
theorem at_v16 (t : Fin 720) (f : Fin 384) : V m c main_v16 (ix2 t f) = if f.val < 361 then wre (root t f) else 0 := by
  unfold V
  after_reads_at
  rw [select_of (slt_361 f), zero_word]
  exact if_congr Iff.rfl ((table (fun k => Ideal.ofBits FTy.f32 (lit0 k)) t f).trans (kernel_wre _)) rfl

/-- of imaginary parts. -/
theorem at_v19 (t : Fin 720) (f : Fin 384) : V m c main_v19 (ix2 t f) = if f.val < 361 then wim (root t f) else 0 := by
  unfold V
  after_reads_at
  rw [select_of (slt_361 f), zero_word]
  exact if_congr Iff.rfl ((table (fun k => Ideal.ofBits FTy.f32 (lit1 k)) t f).trans (kernel_wim _)) rfl

/-- The inverse table of real parts: -/
theorem at_v26 (f : Fin 384) (t : Fin 720) : V m c main_v26 (ix2 f t) = if f.val < 361 then weight f * vre (root t f) else 0 := by
  unfold V
  after_reads_at
  rw [select_of (slt_361 f), select_of (ends f), zero_word]
  refine if_congr Iff.rfl ((if_congr Iff.rfl ((table (fun k => Ideal.ofBits FTy.f32 (lit2 k)) t f).trans (kernel_vre _))
    ((table (fun k => Ideal.ofBits FTy.f32 (lit3 k)) t f).trans (kernel_vre2 _))).trans ?_) rfl
  rw [weight, ite_mul, EReal.coe_one, one_mul]

/-- of imaginary parts. -/
theorem at_v33 (f : Fin 384) (t : Fin 720) : V m c main_v33 (ix2 f t) = if f.val < 361 then weight f * vim (root t f) else 0 := by
  unfold V
  after_reads_at
  rw [select_of (slt_361 f), select_of (ends f), zero_word]
  refine if_congr Iff.rfl ((if_congr Iff.rfl ((table (fun k => Ideal.ofBits FTy.f32 (lit4 k)) t f).trans (kernel_vim _))
    ((table (fun k => Ideal.ofBits FTy.f32 (lit5 k)) t f).trans (kernel_vim2 _))).trans ?_) rfl
  rw [weight, ite_mul, EReal.coe_one, one_mul]

/-- The network's first weights are staged as a row. -/
theorem at_v1 (i : Fin 16) : V m c main_v1 (ix2 0 i) = m (c.tc.loc main_arg1) (ix2 i 0) := by
  unfold V
  after_reads_at

/-- The input's rows are staged flat. -/
theorem at_v0 (r : Fin 41088) (t : Fin 720) :
    V m c main_v0 (ix2 r t) = m (c.tc.loc main_arg0) (ix3 ⟨r / 321, by omega⟩ ⟨r % 321, by omega⟩ t) := by
  unfold V
  after_reads_at

end Cert.KernelIdeal.Operands

end
-- ==== Proof.KernelRow.lean ====
module

public import proofs.«01_k».proof.Proof.Operands

/-! # The kernel's result, row by row

Each grid point writes one block of 384 rows; every row of it is `kernelRow` of the input's row. -/

@[expose] public section

set_option maxRecDepth 16384

noncomputable section

namespace Cert.KernelIdeal.Operands

open Cert.KernelIdeal Cert.KernelIdeal.Gen Idealize.ShloMosaic Idealize.ShloMosaic.TcCoe Cert.Spectrum Cert.Words Cert.Tables Cert.Strip

/-! ## The body's operations, a row at a time -/

/-- The least word of the maximum. -/
theorem bot_word : Ideal.ofBits .f32 0xFF800000#32 = (⊥ : EReal) := by simp [Ideal.ofBits, Ideal.ieee]

/-- One trip of the loop strips every row once. -/
theorem pay5_row (s : FVec Ideal S384x384 .f32) (a f : Fin 384) : k0_pay5 (F := Ideal) s (ix2 a f) = strip (fun g => s (ix2 a g)) f := by
  pointwise [k0_pay5]
  rw [bot_word, neg_one_eq]
  rfl

/-- The loop strips every row 35 times. -/
theorem fold_row (s : FVec Ideal S384x384 .f32) (a : Fin 384) :
    (fun g => Scf.fold (n := k0_t1_loop.trips) (fun _ s => k0_pay5 (F := Ideal) s) s (ix2 a g)) = strip^[35] (fun g => s (ix2 a g)) := by
  have it : ∀ (n : ℕ) (s : FVec Ideal S384x384 .f32),
      (fun g => (List.finRange n).foldl (fun acc _ => k0_pay5 (F := Ideal) acc) s (ix2 a g)) = strip^[n] (fun g => s (ix2 a g)) := by
    intro n
    induction n with
    | zero => exact fun s => rfl
    | succ n ih =>
      intro s
      rw [List.finRange_succ, List.foldl_cons, List.foldl_map, Function.iterate_succ_apply]
      refine (ih (k0_pay5 s)).trans (congrArg _ (funext fun g => pay5_row s a g))
  rw [Scf.fold_eq]
  exact it 35 s

/-- The mask: what exceeds the row's threshold. -/
theorem pay6_row (v0 : Vec Ideal S384x720 .f32) (v2 v5 : Vec Ideal S720x384 .f32) (a f : Fin 384) :
    k0_pay6 (F := Ideal) v0 v2 v5 (Scf.fold (n := k0_t1_loop.trips) (fun _ s => k0_pay5 (F := Ideal) s) (k0_pay4 v0 v2 v5)) (ix2 a f) = 1#1
      ↔ threshold 35 (fun g => k0_pay4 (F := Ideal) v0 v2 v5 (ix2 a g)) < k0_pay4 (F := Ideal) v0 v2 v5 (ix2 a f) := by
  rw [threshold, ← fold_row]
  generalize Scf.fold (n := k0_t1_loop.trips) (fun _ s => k0_pay5 (F := Ideal) s) (k0_pay4 v0 v2 v5) = v17
  pointwise [k0_pay6]
  rw [bot_word, neg_one_eq, half_eq]
  unfold strip top
  rw [show ∀ b : Bool, BitVec.ofBool b = 1#1 ↔ b = true from by decide, decide_eq_true_iff]

/-! ## The blocks -/

variable (m : (ℓ : Loc nD τ sig) → Buf (Elt Ideal) ℓ) (c : Dev nD)

/-- Row `r` of the input. -/
def row (r : Fin 41088) : Fin 720 → EReal := fun t => m (c.tc.loc main_arg0) (ix3 ⟨r / 321, by omega⟩ ⟨r % 321, by omega⟩ t)
/-- The network's weights. -/
def w1 : Fin 16 → EReal := fun i => m (c.tc.loc main_arg1) (ix2 i 0)
def w2 : Fin 16 → EReal := fun i => m (c.tc.loc main_arg3) (ix2 0 i)

/-- Row `a` of block `t`. -/
def at_row (t : Fin cfg0.N) (a : Fin 384) : Fin 41088 := ⟨384 * t.val + a.val, by
  have : cfg0.N = 107 := N_0
  omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem blk0 (t : Fin cfg0.N) (a : Fin 384) (k : Fin 720) : iblk m c 0 t (ix2 a k) = row m c (at_row t a) k := by
  refine Eq.trans ?_ (at_v0 m c (at_row t a) k)
  blk_simp [iblk]
  congr 1
  blk_ext [index0, at_row]

theorem blk1 (t : Fin cfg0.N) (k : Fin 720) (f : Fin 384) :
    iblk m c 1 t (ix2 k f) = if f.val < 361 then wre (root k f) else 0 := by
  refine Eq.trans ?_ (at_v16 m c k f)
  blk_simp [iblk]
  congr 1
  blk_ext [index1]

theorem blk2 (t : Fin cfg0.N) (k : Fin 720) (f : Fin 384) :
    iblk m c 2 t (ix2 k f) = if f.val < 361 then wim (root k f) else 0 := by
  refine Eq.trans ?_ (at_v19 m c k f)
  blk_simp [iblk]
  congr 1
  blk_ext [index2]

theorem blk3 (t : Fin cfg0.N) (f : Fin 384) (l : Fin 720) :
    iblk m c 3 t (ix2 f l) = if f.val < 361 then weight f * vre (root l f) else 0 := by
  refine Eq.trans ?_ (at_v26 m c f l)
  blk_simp [iblk]
  congr 1
  blk_ext [index3]

theorem blk4 (t : Fin cfg0.N) (f : Fin 384) (l : Fin 720) :
    iblk m c 4 t (ix2 f l) = if f.val < 361 then weight f * vim (root l f) else 0 := by
  refine Eq.trans ?_ (at_v33 m c f l)
  blk_simp [iblk]
  congr 1
  blk_ext [index4]

theorem blk5 (t : Fin cfg0.N) (i : Fin 16) : iblk m c 5 t (ix2 0 i) = w1 m c i := by
  refine Eq.trans ?_ (at_v1 m c i)
  blk_simp [iblk]
  congr 1
  blk_ext [index5]

theorem blk6 (t : Fin cfg0.N) (i : Fin 16) : iblk m c 6 t (ix2 0 i) = w2 m c i := by
  refine Eq.trans ?_ (congrFun (V_main_arg3 m c) (ix2 0 i))
  blk_simp [iblk]
  congr 1
  blk_ext [index6]

/-- A block's spectrum, zero past the last frequency. -/
theorem re_row (t : Fin cfg0.N) (a f : Fin 384) :
    k0_pay2 (F := Ideal) (iblk m c 0 t) (iblk m c 1 t) (ix2 a f) = if f.val < 361 then re (row m c (at_row t a)) f else 0 := by
  pointwise [k0_pay2, k0_pay1]
  simp only [blk0, blk1]
  split_ifs
  · rfl
  · simp
theorem im_row (t : Fin cfg0.N) (a f : Fin 384) :
    k0_pay3 (F := Ideal) (iblk m c 0 t) (iblk m c 2 t) (ix2 a f) = if f.val < 361 then im (row m c (at_row t a)) f else 0 := by
  pointwise [k0_pay3, k0_pay1]
  simp only [blk0, blk2]
  split_ifs
  · rfl
  · simp

/-- The padded power of a block's row. -/
theorem power_row (t : Fin cfg0.N) (a f : Fin 384) :
    k0_pay4 (F := Ideal) (iblk m c 0 t) (iblk m c 1 t) (iblk m c 2 t) (ix2 a f) = padded (row m c (at_row t a)) f := by
  have h1 := re_row m c t a f
  have h2 := im_row m c t a f
  pointwise [k0_pay4]
  rw [h1, h2, neg_one_eq, select_of (slt_361 f), padded]
  split_ifs
  · rfl
  · rfl

/-- The factor, cell by cell. -/
theorem factor_eq (u v : Fin 16 → EReal) :
    factor u v = v 0 * max (u 0) 0 + v 1 * max (u 1) 0 + v 2 * max (u 2) 0 + v 3 * max (u 3) 0 + v 4 * max (u 4) 0
      + v 5 * max (u 5) 0 + v 6 * max (u 6) 0 + v 7 * max (u 7) 0 + v 8 * max (u 8) 0 + v 9 * max (u 9) 0
      + v 10 * max (u 10) 0 + v 11 * max (u 11) 0 + v 12 * max (u 12) 0 + v 13 * max (u 13) 0 + v 14 * max (u 14) 0
      + v 15 * max (u 15) 0 := by
  unfold factor
  iterate 16 rw [Fin.sum_univ_castSucc]
  rw [Finset.univ_eq_empty, Finset.sum_empty, zero_add]
  rfl

/-- A block's output, row by row. -/
theorem out_row (t : Fin cfg0.N) (a : Fin 384) (l : Fin 720) :
    outsAt0 m c t (ix2 a l) = kernelRow (w1 m c) (w2 m c) (row m c (at_row t a)) l := by
  have hm := fun f : Fin 384 => pay6_row (iblk m c 0 t) (iblk m c 1 t) (iblk m c 2 t) a f
  simp only [power_row] at hm
  unfold outsAt0
  frame_out
  generalize k0_pay6 (F := Ideal) _ _ _ _ = mask at hm ⊢
  have h1 := re_row m c t a
  have h2 := im_row m c t a
  generalize k0_pay2 (F := Ideal) _ _ = re_ at h1 ⊢
  generalize k0_pay3 (F := Ideal) _ _ = im_ at h2 ⊢
  pointwise [k0_pay10, k0_pay9, k0_pay8, k0_pay7]
  simp only [blk3, blk4, blk5, blk6, select_of (hm _), h1, h2]
  simp only [← factor_eq]
  rfl

/-- Where the output's block `t` lies. -/
theorem emb7 (t : Fin cfg0.N) (a : Fin 384) (l : Fin 720) : (win0_7.blk t).view.emb (ix2 a l) = ix2 (at_row t a) l := by
  blk_ext [index7, at_row]

/-- The kernel's result. -/
theorem out_eq (r : Fin 41088) (l : Fin 720) :
    (dats m 0 c).arrAt 7 cfg0.N (ix2 r l) = kernelRow (w1 m c) (w2 m c) (row m c r) l := by
  have e : (dats m 0 c).arrAt 7 cfg0.N = fun i => kernelRow (w1 m c) (w2 m c) (row m c (i 0)) (i 1) := by
    refine (dats m 0 c).arrAt_eq_of_covers 7 _ (by decide +kernel) fun t hf y => ?_
    blk_simp
    rw [after0_7]
    obtain ⟨a, l, rfl⟩ : ∃ a l, y = ix2 a l := ⟨y 0, y 1, by funext k; fin_cases k <;> rfl⟩
    refine (out_row m c t a l).trans ?_
    have e0 := emb7 t a l
    generalize (win0_7.blk t).view.emb (ix2 a l) = i at e0 ⊢
    subst e0
    rfl
  exact congrFun e (ix2 r l)

end Cert.KernelIdeal.Operands

end
-- ==== Proof.TopK.lean ====
module

public import proofs.«01_k».proof.Proof.KernelRow
public import Idealize.ShloMosaic.Lib.SortFacts
public import Idealize.ShloMosaic.Lib.Routing.OpsSet

/-! # A row's order

The sort behind the reference's top-k as a permutation of a row's positions, and what the top-k and the scatter through its
positions hold. -/

@[expose] public section

set_option maxRecDepth 16384

noncomputable section

namespace Cert.TopK

open Idealize.ShloMosaic Cert.Tables

/-- `a` comes before `b`. -/
def greater (a b : EReal) : BitVec 1 := FloatOps.cmpfTotal (F := Ideal) (φ := .f32) .gt a b

theorem greater_iff (a b : EReal) : greater a b = 1#1 ↔ b < a := by
  show BitVec.ofBool (decide (b < a)) = 1#1 ↔ b < a
  rw [show ∀ c : Bool, BitVec.ofBool c = 1#1 ↔ c = true from by decide, decide_eq_true_iff]

variable {n : ℕ} (y : Fin n → EReal)

/-- The position of the row's element that the sort puts at `k`. -/
def order : Fin n → Fin n := sortedFrom fun k k' => greater (y k) (y k') == 1#1

theorem order_bijective : Function.Bijective (order y) := ⟨sortedFrom_injective _, sortedFrom_surjective _⟩

/-- The sorted row does not increase. -/
theorem order_anti {i j : Fin n} (h : i < j) : y (order y j) ≤ y (order y i) := by
  have hb : ∀ a b, (greater (y a) (y b) == 1#1) = true ↔ y b < y a := fun a b => by rw [beq_iff_eq, greater_iff]
  have hn : ∀ a b, (greater (y a) (y b) == 1#1) = false ↔ y a ≤ y b := fun a b => by
    rw [← Bool.not_eq_true, hb, not_lt]
  have := sortedFrom_noInversion (fun k k' => greater (y k) (y k') == 1#1) (fun k k' => greater (y k) (y k') == 1#1)
    (fun a b q => (hn b a).mpr ((hb a b).mp q).le) (fun _ _ q => q)
    (fun a b c p q => (hn a c).mpr (((hn a b).mp p).trans ((hn b c).mp q))) i j h
  exact (hn _ _).mp this

/-- The place of position `f` in the sorted row. -/
def place (f : Fin n) : Fin n := (Equiv.ofBijective _ (order_bijective y)).symm f

theorem order_place (f : Fin n) : order y (place y f) = f := (Equiv.ofBijective _ (order_bijective y)).apply_symm_apply f
theorem place_order (k : Fin n) : place y (order y k) = k := (Equiv.ofBijective _ (order_bijective y)).symm_apply_apply k

/-! ## The top-k of a matrix's rows -/

variable {R K : ℕ} (A : (⟨2, ![R, n]⟩ : Shape).Idx → EReal)

theorem along_row (r : Fin R) (j k : Fin n) : (ix2 r j : (⟨2, ![R, n]⟩ : Shape).Idx).along 1 k = ix2 r k := by
  funext q
  match q with
  | ⟨0, _⟩ => exact Function.update_of_ne (Fin.zero_ne_one (n := 0)) _ _
  | ⟨1, _⟩ => exact Function.update_self (1 : Fin 2) k (ix2 r j : (⟨2, ![R, n]⟩ : Shape).Idx)

/-- The first columns. -/
theorem slice_row {α : Type} (x : (⟨2, ![R, n]⟩ : Shape).Idx → α) (h : (⟨2, ![R, n]⟩ : Shape).Slices (fun _ => 0) ⟨2, ![R, K]⟩) (hK : K ≤ n)
    (r : Fin R) (j : Fin K) : extractStridedSlice ⟨2, ![R, K]⟩ (fun _ => 0) x h (ix2 r j) = x (ix2 r (j.castLE hK)) := by
  unfold extractStridedSlice
  refine congrArg x (funext fun q => Fin.ext ?_)
  match q with
  | ⟨0, _⟩ => exact Nat.zero_add r.val
  | ⟨1, _⟩ => exact Nat.zero_add j.val

theorem values_at (h : (⟨2, ![R, n]⟩ : Shape).Slices (fun _ => 0) ⟨2, ![R, K]⟩) (hK : K ≤ n) (r : Fin R) (j : Fin K) :
    (Host.topK ⟨2, ![R, K]⟩ 1 (FloatOps.cmpfTotal (F := Ideal) (φ := .f32) .gt) A h).1 (ix2 r j)
      = A (ix2 r (order (fun k => A (ix2 r k)) (j.castLE hK))) := by
  unfold Host.topK
  dsimp only
  refine (slice_row _ h hK r j).trans ?_
  unfold Host.sort2
  rw [dif_pos (show 1 < 2 by decide)]
  refine (congrArg A (along_row r (j.castLE hK) _)).trans (congrArg (fun k => A (ix2 r k)) ?_)
  refine congrArg (fun B : Fin n → Fin n → Bool => sortedFrom B (j.castLE hK)) (funext fun k => funext fun k' => ?_)
  exact congrArg₂ (fun a b => greater a b == 1#1) (congrArg A (along_row r (j.castLE hK) k)) (congrArg A (along_row r (j.castLE hK) k'))

theorem indices_at (h : (⟨2, ![R, n]⟩ : Shape).Slices (fun _ => 0) ⟨2, ![R, K]⟩) (hK : K ≤ n) (r : Fin R) (j : Fin K) :
    (Host.topK ⟨2, ![R, K]⟩ 1 (FloatOps.cmpfTotal (F := Ideal) (φ := .f32) .gt) A h).2 (ix2 r j)
      = BitVec.ofNat 32 (order (fun k => A (ix2 r k)) (j.castLE hK)).val := by
  unfold Host.topK
  dsimp only
  refine (slice_row _ h hK r j).trans ?_
  unfold Host.sort2
  rw [dif_pos (show 1 < 2 by decide)]
  refine (congrArg (fun i : (⟨2, ![R, n]⟩ : Shape).Idx => BitVec.ofNat 32 (i 1).val) (along_row r (j.castLE hK) _)).trans
    (congrArg (fun k : Fin n => BitVec.ofNat 32 k.val) ?_)
  refine congrArg (fun B : Fin n → Fin n → Bool => sortedFrom B (j.castLE hK)) (funext fun k => funext fun k' => ?_)
  exact congrArg₂ (fun a b => greater a b == 1#1) (congrArg A (along_row r (j.castLE hK) k)) (congrArg A (along_row r (j.castLE hK) k'))

/-! ## The scatter to those positions -/

/-- A scatter of each row's `K` values to `K` different positions of the row. -/
theorem scatter_row {n32 : n < 2 ^ 31} {R32 : R < 2 ^ 31} (d : ScatterDims ⟨2, ![R, n]⟩ ⟨3, ![R, K, 2]⟩ ⟨2, ![R, K]⟩)
    (hiw : d.insertedWindowDims = [0, 1]) (hsd : d.scatterDimsToOperandDims = [0, 1]) (hivd : d.indexVectorDim = 2)
    (x0 : (⟨2, ![R, n]⟩ : Shape).Idx → EReal) (idx : IVec ⟨3, ![R, K, 2]⟩ 32) (u : (⟨2, ![R, K]⟩ : Shape).Idx → EReal)
    (p : Fin R → Fin K → Fin n) (hp : ∀ r, Function.Injective (p r))
    (h0 : ∀ r j, idx (ix3 r j 0) = BitVec.ofNat 32 r.val) (h1 : ∀ r j, idx (ix3 r j 1) = BitVec.ofNat 32 (p r j).val) (r : Fin R) :
    (∀ j, Host.scatter d (fun _ b => b) x0 idx u (ix2 r (p r j)) = u (ix2 r j))
      ∧ ∀ f, (∀ j, p r j ≠ f) → Host.scatter d (fun _ b => b) x0 idx u (ix2 r f) = x0 (ix2 r f) := by
  have lands : ∀ (a : Fin R) (j : Fin K) (f : Fin n), d.resultIdx? (ix2 a j) idx = some (ix2 r f) ↔ a = r ∧ p a j = f := fun a j f => by
    refine (Routing.scatter_lands2 d hiw hsd hivd idx a j r f).trans ?_
    have ha := a.isLt
    have hpj := (p a j).isLt
    rw [show idx (ValueIdx.ix3 a j 0) = _ from h0 a j, show idx (ValueIdx.ix3 a j 1) = _ from h1 a j,
      StableHlo.Predicate.toInt_ofNat_small _ (by omega), StableHlo.Predicate.toInt_ofNat_small _ (by omega)]
    exact and_congr (Int.ofNat_inj.trans Fin.ext_iff.symm) (Int.ofNat_inj.trans Fin.ext_iff.symm)
  have all : ∀ k : (⟨2, ![R, K]⟩ : Shape).Idx, k = ix2 (k 0) (k 1) := fun k => by
    funext q
    match q with
    | ⟨0, _⟩ => rfl
    | ⟨1, _⟩ => rfl
  constructor
  · intro j
    refine Routing.scatter_set_hit d x0 idx u _ _ (fun k hk => ?_) (ix2 r j) ((lands r j _).mpr ⟨rfl, rfl⟩)
    rw [all k] at hk ⊢
    obtain ⟨e0, e1⟩ := (lands _ _ _).mp hk
    rw [e0] at e1 ⊢
    exact congrArg (fun j => u (ix2 r j)) (hp r e1)
  · intro f hf
    refine Routing.scatter_set_miss d x0 idx u _ fun k hk => ?_
    rw [all k] at hk
    obtain ⟨e0, e1⟩ := (lands _ _ _).mp hk
    rw [e0] at e1
    exact hf _ e1

end Cert.TopK

end
-- ==== Proof.RefRow.lean ====
module

public import proofs.«01_k».proof.Proof.TopK
public import proofs.«01_k».proof.Proof.Gen.ReferenceIdeal.Run

/-! # The reference's result, row by row

The reference's operations, named in a few groups, read at an index: where the biases are zero a row of the result is `refRow`
of the input's row. -/

@[expose] public section

set_option maxRecDepth 16384

noncomputable section

namespace Cert.ReferenceIdeal.Rows

open Cert.ReferenceIdeal Cert.ReferenceIdeal.Gen Cert.ReferenceIdeal.Value Idealize.ShloMosaic Idealize.ShloMosaic.TcCoe Cert.Spectrum Cert.Words Cert.Tables Cert.TopK
open Facts

/-- The array of `f * l` modulo 720. -/
def turns : IVec S720x361x1 32 :=
  broadcastInDim S720x361x1 ![0, 1] bcast_S720x361_S720x361x1_0_1 (Host.remsi (muli (iotaInDim S720x361 32 0) (iotaInDim S720x361 32 1)) (broadcastInDim S720x361 ![] bcast_S_S720x361 (constantI S_ 32 720#32)))

/-- A table of 720 words at `turns`. -/
def waves (words : Fin 720 → BitVec 32) : FVec Ideal S720x361 .f32 :=
  Host.gather gather_S720_S720x361x1_S720x361_n_0_n_n_0_2_1 (fun i => FloatOps.ofBits .f32 (words (S720.rowMajor i))) turns

/-- One part of the spectrum. -/
def spectrum (words : Fin 720 → BitVec 32) (x : FVec Ideal S128x321x720 .f32) : FVec Ideal S41088x361 .f32 :=
  Host.dotGeneral dot_S41088x720_S720x361_S41088x361_1_0_0_1_n_n (some .fp32) (shapeCast _ x shapeCasts_S128x321x720_S41088x720) (waves words)

/-- The amplitudes. -/
def amps (p q : FVec Ideal S41088x361 .f32) : FVec Ideal S41088x361 .f32 := Host.sqrt (addf (mulf p p) (mulf q q))

/-- The network's outputs on the greatest amplitudes. -/
def outputs (a : FVec Ideal S41088x361 .f32) (u : FVec Ideal S16x1 .f32) (b : FVec Ideal S16 .f32) (v : FVec Ideal S1x16 .f32) (d : FVec Ideal S1 .f32) :
    FVec Ideal S41088x36 .f32 :=
  shapeCast _ (addf (Host.dotGeneral dot_S41088x36x16_S16x1_S41088x36x1_2_0_01_1_n_n (some .fp32) (maximumf (addf (Host.dotGeneral dot_S41088x36x1_S1x16_S41088x36x16_2_0_01_1_n_n (some .fp32) (broadcastInDim S41088x36x1 ![0, 1] bcast_S41088x36_S41088x36x1_0_1 (Host.topK S41088x36 1 (FloatOps.cmpfTotal .gt) a sliceFits_S41088x361_S41088x36).1) (transpose S1x16 [1, 0] u transposes_S16x1_S1x16_1_0)) (broadcastInDim S41088x36x16 ![0, 1, 2] bcast_S1x1x16_S41088x36x16_0_1_2 (broadcastInDim S1x1x16 ![2] bcast_S16_S1x1x16_2 b))) (broadcastInDim S41088x36x16 ![] bcast_S_S41088x36x16 (constant S_ .f32 0x00000000#32))) (transpose S16x1 [1, 0] v transposes_S1x16_S16x1_1_0)) (broadcastInDim S41088x36x1 ![0, 1, 2] bcast_S1x1x1_S41088x36x1_0_1_2 (broadcastInDim S1x1x1 ![2] bcast_S1_S1x1x1_2 d))) shapeCasts_S41088x36x1_S41088x36

/-- The first word of each of the scatter's pairs: the row. -/
def rows : IVec S41088x36x1 32 :=
  broadcastInDim S41088x36x1 ![0, 1] bcast_S41088x36_S41088x36x1_0_1 (broadcastInDim S41088x36 ![0, 1] bcast_S41088x1_S41088x36_0_1 (select (cmpi .slt (broadcastInDim S41088x1 ![0] bcast_S41088_S41088x1_0 (iotaInDim S41088 32 0)) (broadcastInDim S41088x1 ![] bcast_S_S41088x1 (constantI S_ 32 0#32))) (addi (broadcastInDim S41088x1 ![0] bcast_S41088_S41088x1_0 (iotaInDim S41088 32 0)) (broadcastInDim S41088x1 ![] bcast_S_S41088x1 (constantI S_ 32 41088#32))) (broadcastInDim S41088x1 ![0] bcast_S41088_S41088x1_0 (iotaInDim S41088 32 0))))

/-- The second: the frequency. -/
def cols (i : IVec S41088x36 32) : IVec S41088x36x1 32 :=
  broadcastInDim S41088x36x1 ![0, 1] bcast_S41088x36_S41088x36x1_0_1 (select (cmpi .slt i (broadcastInDim S41088x36 ![] bcast_S_S41088x36 (constantI S_ 32 0#32))) (addi i (broadcastInDim S41088x36 ![] bcast_S_S41088x36 (constantI S_ 32 361#32))) i)

/-- The new amplitudes: the outputs at their frequencies, zero elsewhere. -/
def spread (a : FVec Ideal S41088x361 .f32) (o : FVec Ideal S41088x36 .f32) : FVec Ideal S41088x361 .f32 :=
  Host.scatter scatter_S41088x361_S41088x36x2_S41088x36_n_01_01_2 (fun _ b => b) (broadcastInDim S41088x361 ![] bcast_S_S41088x361 (constant S_ .f32 0x00000000#32))
    (fn_main_v52 (F := Ideal) rows (cols (Host.topK S41088x36 1 (FloatOps.cmpfTotal .gt) a sliceFits_S41088x361_S41088x36).2)) o

/-- How often each frequency counts. -/
def counts : FVec Ideal S41088x361 .f32 :=
  broadcastInDim S41088x361 ![0, 1] bcast_S1x361_S41088x361_0_1 (broadcastInDim S1x361 ![1] bcast_S361_S1x361_1 (id (select (ori (cmpi .eq (iotaInDim S361 32 0) (broadcastInDim S361 ![] bcast_S_S361 (constantI S_ 32 0#32))) (cmpi .eq (iotaInDim S361 32 0) (broadcastInDim S361 ![] bcast_S_S361 (constantI S_ 32 360#32)))) (broadcastInDim S361 ![] bcast_S_S361 (constant S_ .f32 0x3F800000#32)) (broadcastInDim S361 ![] bcast_S_S361 (constant S_ .f32 0x40000000#32)))))

/-- One part of the inverse transform. -/
def part (words : Fin 720 → BitVec 32) (s phase : FVec Ideal S41088x361 .f32) : FVec Ideal S41088x720 .f32 :=
  Host.dotGeneral dot_S41088x361_S361x720_S41088x720_1_0_0_1_n_n (some .fp32) (mulf (mulf s phase) counts) (transpose S361x720 [1, 0] (waves words) transposes_S720x361_S361x720_1_0)

/-- The inverse transform of the new amplitudes at the old phases. -/
def inverse (p q : FVec Ideal S41088x361 .f32) (s : FVec Ideal S41088x361 .f32) : FVec Ideal S41088x720 .f32 :=
  addf (part lit2 s (Host.cos (Host.atan2 q p))) (part lit3 s (Host.sin (Host.atan2 q p)))

variable (m : (ℓ : Loc nD τ sig) → Buf (Elt Ideal) ℓ) (c : Dev nD)

/-- The result in terms of the groups. -/
theorem result_eq : res_main_v91 (F := Ideal) m c
    = inverse (spectrum lit0 (m (c.tc.loc main_arg0))) (spectrum lit1 (m (c.tc.loc main_arg0)))
      (spread (amps (spectrum lit0 (m (c.tc.loc main_arg0))) (spectrum lit1 (m (c.tc.loc main_arg0))))
        (outputs (amps (spectrum lit0 (m (c.tc.loc main_arg0))) (spectrum lit1 (m (c.tc.loc main_arg0))))
          (m (c.tc.loc main_arg1)) (m (c.tc.loc main_arg2)) (m (c.tc.loc main_arg3)) (m (c.tc.loc main_arg4)))) := by
  unfold res_main_v91
  rfl

/-! ## The groups at an index -/

theorem turns_at (t : Fin 720) (f : Fin 361) : turns (ix3 t f 0) = BitVec.ofNat 32 (t * f % 720) := by
  unfold turns
  pointwise
  exact root_word t f t.isLt (by omega)

theorem waves_at (words : Fin 720 → BitVec 32) (t : Fin 720) (f : Fin 361) : waves words (ix2 t f) = Ideal.ofBits .f32 (words (root t f)) :=
  gather_root _ (fun k => Ideal.ofBits .f32 (words k)) turns t f (turns_at t f)

theorem spectrum_at (words : Fin 720 → BitVec 32) (g : Fin 720 → EReal) (hg : ∀ k, Ideal.ofBits .f32 (words k) = g k) (x : FVec Ideal S128x321x720 .f32) (r : Fin 41088) (f : Fin 361) :
    spectrum words x (ix2 r f) = ∑ t : Fin 720, x (ix3 ⟨r / 321, by omega⟩ ⟨r % 321, by omega⟩ t) * g (root t f) := by
  have h := fun t => (waves_at words t f).trans (hg _)
  unfold spectrum
  generalize waves words = w at h ⊢
  pointwise
  simp only [h]

theorem amps_at (p q : FVec Ideal S41088x361 .f32) (i : S41088x361.Idx) : amps p q i = Ideal.sqrt (p i * p i + q i * q i) := by
  unfold amps
  pointwise

/-- The first and the last frequency. -/
theorem ends (f : Fin 361) : IntOp.ori (IntOp.cmpi .eq (BitVec.ofNat 32 f.val) 0#32) (IntOp.cmpi .eq (BitVec.ofNat 32 f.val) 360#32) = 1#1
    ↔ f.val = 0 ∨ f.val = 360 := by
  revert f
  decide +kernel

theorem counts_at (r : Fin 41088) (f : Fin 361) : counts (ix2 r f) = weight f := by
  unfold counts
  simp only [id]
  pointwise
  rw [select_of (ends f), two_eq, weight, EReal.coe_one]

theorem rows_at (r : Fin 41088) (j : Fin 36) : rows (ix3 r j 0) = BitVec.ofNat 32 r.val := by
  unfold rows
  pointwise
  exact Routing.wrap_of_lt _ _ (by rw [BitVec.toNat_ofNat]; omega)

theorem cols_at (i : IVec S41088x36 32) (r : Fin 41088) (j : Fin 36) (k : Fin 361) (h : i (ix2 r j) = BitVec.ofNat 32 k.val) :
    cols i (ix3 r j 0) = BitVec.ofNat 32 k.val := by
  unfold cols
  pointwise
  rw [h]
  exact Routing.wrap_of_lt _ _ (by rw [BitVec.toNat_ofNat]; omega)

theorem part_at (words : Fin 720 → BitVec 32) (g : Fin 720 → EReal) (hg : ∀ k, Ideal.ofBits .f32 (words k) = g k) (s phase : FVec Ideal S41088x361 .f32) (r : Fin 41088) (l : Fin 720) :
    part words s phase (ix2 r l) = ∑ f : Fin 361, s (ix2 r f) * phase (ix2 r f) * weight f * g (root l f) := by
  have h := fun f => (waves_at words l f).trans (hg _)
  have hc := counts_at r
  unfold part
  generalize waves words = w at h ⊢
  generalize counts = n at hc ⊢
  pointwise
  simp only [h, hc]

theorem pair_at (a b : IVec S41088x36x1 32) (r : Fin 41088) (j : Fin 36) :
    fn_main_v52 (F := Ideal) a b (ix3 r j 0) = a (ix3 r j 0) ∧ fn_main_v52 (F := Ideal) a b (ix3 r j 1) = b (ix3 r j 0) := by
  constructor
  · unfold fn_main_v52
    pointwise
  · unfold fn_main_v52
    pointwise

theorem outputs_at (a : FVec Ideal S41088x361 .f32) (u : FVec Ideal S16x1 .f32) (b : FVec Ideal S16 .f32) (v : FVec Ideal S1x16 .f32) (d : FVec Ideal S1 .f32)
    (hb : b = fun _ => 0) (hd : d = fun _ => 0) (r : Fin 41088) (j : Fin 36) :
    outputs a u b v d (ix2 r j) = net (fun i => u (ix2 i 0)) (fun i => v (ix2 0 i))
      (a (ix2 r (order (fun k => a (ix2 r k)) (j.castLE (by norm_num))))) := by
  have h := values_at (K := 36) a sliceFits_S41088x361_S41088x36 (by norm_num) r j
  subst hb
  subst hd
  unfold outputs
  generalize (Host.topK (s := S41088x361) S41088x36 1 (FloatOps.cmpfTotal (F := Ideal) (φ := .f32) .gt) a sliceFits_S41088x361_S41088x36).1 = w at h ⊢
  pointwise
  simp only [h, Finset.sum_const, Finset.card_univ, Fintype.card_fin, one_smul]
  rfl

/-- The new amplitudes: an output where its frequency has one of the first 36 places, zero elsewhere. -/
theorem spread_at (a : FVec Ideal S41088x361 .f32) (o : FVec Ideal S41088x36 .f32) (r : Fin 41088) (f : Fin 361) :
    spread a o (ix2 r f) = if h : (place (fun k => a (ix2 r k)) f).val < 36 then o (ix2 r ⟨_, h⟩) else 0 := by
  have hi := fun r j => indices_at (K := 36) a sliceFits_S41088x361_S41088x36 (by norm_num) r j
  unfold spread
  generalize (Host.topK (s := S41088x361) S41088x36 1 (FloatOps.cmpfTotal (F := Ideal) (φ := .f32) .gt) a sliceFits_S41088x361_S41088x36).2 = w at hi ⊢
  have key := scatter_row (n32 := by norm_num) (R32 := by norm_num) scatter_S41088x361_S41088x36x2_S41088x36_n_01_01_2 rfl rfl rfl
    (broadcastInDim S41088x361 ![] bcast_S_S41088x361 (constant (F := Ideal) S_ .f32 0x00000000#32)) (fn_main_v52 (F := Ideal) rows (cols w)) o
    (fun r j => order (fun k => a (ix2 r k)) (j.castLE (by norm_num)))
    (fun r => (order_bijective _).1.comp (Fin.castLE_injective (by norm_num)))
    (fun r j => (pair_at _ _ r j).1.trans (rows_at r j)) (fun r j => (pair_at _ _ r j).2.trans (cols_at w r j _ (hi r j))) r
  generalize fn_main_v52 (F := Ideal) rows (cols w) = idx at key ⊢
  split_ifs with h
  · have := key.1 ⟨_, h⟩
    rw [show Fin.castLE _ (⟨(place (fun k => a (ix2 r k)) f).val, h⟩ : Fin 36) = place (fun k => a (ix2 r k)) f from rfl, order_place] at this
    exact this
  · refine (key.2 f fun j e => h ?_).trans ?_
    · rw [← e, place_order]
      exact j.isLt
    · exact Ideal.ofBits_zero_f32

theorem wre_word (k : Fin 720) : Ideal.ofBits .f32 (lit0 k) = wre k := rfl
theorem wim_word (k : Fin 720) : Ideal.ofBits .f32 (lit1 k) = wim k := rfl
theorem vre_word (k : Fin 720) : Ideal.ofBits .f32 (lit2 k) = vre k := rfl
theorem vim_word (k : Fin 720) : Ideal.ofBits .f32 (lit3 k) = vim k := rfl

/-- Row `r` of an input. -/
def row (x : FVec Ideal S128x321x720 .f32) (r : Fin 41088) : Fin 720 → EReal := fun t => x (ix3 ⟨r / 321, by omega⟩ ⟨r % 321, by omega⟩ t)

theorem re_at (x : FVec Ideal S128x321x720 .f32) (r : Fin 41088) (f : Fin 361) : spectrum lit0 x (ix2 r f) = re (row x r) f := by
  rw [spectrum_at lit0 wre wre_word, re]
  rfl
theorem im_at (x : FVec Ideal S128x321x720 .f32) (r : Fin 41088) (f : Fin 361) : spectrum lit1 x (ix2 r f) = im (row x r) f := by
  rw [spectrum_at lit1 wim wim_word, im]
  rfl

/-- A frequency's place among the amplitudes of a row. -/
def rank (y : Fin 720 → EReal) (f : Fin 361) : ℕ := (place (fun k : Fin 361 => amp y k) f).val

/-- The new amplitudes of a row. -/
theorem kept_at (a : FVec Ideal S41088x361 .f32) (u : FVec Ideal S16x1 .f32) (b : FVec Ideal S16 .f32) (v : FVec Ideal S1x16 .f32) (d : FVec Ideal S1 .f32)
    (hb : b = fun _ => 0) (hd : d = fun _ => 0) (r : Fin 41088) (y : Fin 720 → EReal) (ha : ∀ f : Fin 361, a (ix2 r f) = amp y f) (f : Fin 361) :
    spread a (outputs a u b v d) (ix2 r f) = kept (fun i => u (ix2 i 0)) (fun i => v (ix2 0 i)) y f (rank y f) := by
  have hrow : (fun k => a (ix2 r k)) = fun k : Fin 361 => amp y k := funext ha
  rw [spread_at, kept, rank, hrow]
  split_ifs with h
  · rw [outputs_at a u b v d hb hd, hrow]
    refine congrArg _ ?_
    refine (congrArg (fun k => a (ix2 r k)) (order_place (fun k : Fin 361 => amp y k) f)).trans (ha f)
  · rfl

/-- A row of the inverse transform. -/
theorem inverse_at (p q s : FVec Ideal S41088x361 .f32) (r : Fin 41088) (l : Fin 720) :
    inverse p q s (ix2 r l)
      = (∑ f : Fin 361, s (ix2 r f) * Ideal.cos (Ideal.atan2 (q (ix2 r f)) (p (ix2 r f))) * weight f * vre (root l f))
        + ∑ f : Fin 361, s (ix2 r f) * Ideal.sin (Ideal.atan2 (q (ix2 r f)) (p (ix2 r f))) * weight f * vim (root l f) := by
  have h2 := part_at lit2 vre vre_word s (Host.cos (Host.atan2 q p)) r l
  have h3 := part_at lit3 vim vim_word s (Host.sin (Host.atan2 q p)) r l
  unfold inverse
  generalize part lit2 s (Host.cos (Host.atan2 q p)) = b2 at h2 ⊢
  generalize part lit3 s (Host.sin (Host.atan2 q p)) = b3 at h3 ⊢
  exact congrArg₂ (· + ·) h2 h3

/-- A row of the reference's result. -/
theorem out_eq (x : FVec Ideal S128x321x720 .f32) (u : FVec Ideal S16x1 .f32) (b : FVec Ideal S16 .f32) (v : FVec Ideal S1x16 .f32) (d : FVec Ideal S1 .f32)
    (hb : b = fun _ => 0) (hd : d = fun _ => 0) (r : Fin 41088) (l : Fin 720) :
    inverse (spectrum lit0 x) (spectrum lit1 x) (spread (amps (spectrum lit0 x) (spectrum lit1 x)) (outputs (amps (spectrum lit0 x) (spectrum lit1 x)) u b v d)) (ix2 r l)
      = refRow (fun i => u (ix2 i 0)) (fun i => v (ix2 0 i)) (row x r) (rank (row x r)) l := by
  have hp := re_at x r
  have hq := im_at x r
  generalize spectrum lit0 x = p at hp ⊢
  generalize spectrum lit1 x = q at hq ⊢
  generalize row x r = y at hp hq ⊢
  have ha : ∀ f : Fin 361, amps p q (ix2 r f) = amp y f := fun f => by
    rw [amps_at, hp, hq, amp, power]
  rw [inverse_at, refRow]
  simp only [kept_at _ u b v d hb hd r y ha, hp, hq]

end Cert.ReferenceIdeal.Rows

end
-- ==== Proof.Pre.lean ====
module

public import proofs.«01_k».proof.Proof.RefRow
public import proofs.«01_k».proof.Proof.Gen.Pre_no_bias_and_no_tie
public import Idealize.ShloMosaic.Lib.ReduceAll

/-! # The precondition

What the printed predicate says of the inputs: the two biases are zero, and in every row the 37 greatest amplitudes decrease
strictly. -/

@[expose] public section

set_option maxRecDepth 16384

noncomputable section

namespace Cert.Predicate

open Idealize.ShloMosaic Cert.ReferenceIdeal Cert.ReferenceIdeal.Rows Cert.Spectrum Cert.Words Cert.Tables Cert.TopK

variable (x : FVec Ideal S128x321x720 .f32) (u : FVec Ideal S16x1 .f32) (b : FVec Ideal S16 .f32) (v : FVec Ideal S1x16 .f32) (d : FVec Ideal S1 .f32)

/-- A word of a condition. -/
theorem bool_word (c : Bool) : BitVec.ofBool c = 1#1 ↔ c = true := by revert c; decide

instance : Subsingleton (⟨0, ![]⟩ : Shape).Idx := ⟨fun _ _ => funext fun k => k.elim0⟩

theorem bias_of (h : (Cert.Pre_no_bias_and_no_tie.fn (F := Ideal) x u b v d).1 = fun _ => 1#1) : b = fun _ => 0 := by
  dsimp only [Cert.Pre_no_bias_and_no_tie.fn, Cert.Pre_no_bias_and_no_tie.fn_part1] at h
  funext i
  have h := Host.reduce_andi_all _ _ _ _ _ (congrFun h ix0) i
  pointwise at h
  exact of_decide_eq_true ((bool_word _).mp h)

theorem bias2_of (h : (Cert.Pre_no_bias_and_no_tie.fn (F := Ideal) x u b v d).2.1 = fun _ => 1#1) : d = fun _ => 0 := by
  dsimp only [Cert.Pre_no_bias_and_no_tie.fn, Cert.Pre_no_bias_and_no_tie.fn_part1] at h
  funext i
  have h := Host.reduce_andi_all _ _ _ _ _ (congrFun h ix0) i
  pointwise at h
  exact of_decide_eq_true ((bool_word _).mp h)

/-- The strict decrease, over the amplitudes' array. -/
theorem fn_eq : (Cert.Pre_no_bias_and_no_tie.fn (F := Ideal) x u b v d).2.2
    = Host.reduce IntOp.andi (cmpf .ogt
        (extractStridedSlice Cert.Pre_no_bias_and_no_tie.S41088x36 ![0, 0] (Host.topK Cert.Pre_no_bias_and_no_tie.S41088x37 1 (FloatOps.cmpfTotal (F := Ideal) .gt)
          (amps (spectrum Cert.Pre_no_bias_and_no_tie.lit0 x) (spectrum Cert.Pre_no_bias_and_no_tie.lit1 x)) Cert.Pre_no_bias_and_no_tie.Gen.sliceFits_S41088x361_S41088x37).1
          Cert.Pre_no_bias_and_no_tie.Gen.slices_S41088x37_S41088x36_0_0)
        (extractStridedSlice Cert.Pre_no_bias_and_no_tie.S41088x36 ![0, 1] (Host.topK Cert.Pre_no_bias_and_no_tie.S41088x37 1 (FloatOps.cmpfTotal (F := Ideal) .gt)
          (amps (spectrum Cert.Pre_no_bias_and_no_tie.lit0 x) (spectrum Cert.Pre_no_bias_and_no_tie.lit1 x)) Cert.Pre_no_bias_and_no_tie.Gen.sliceFits_S41088x361_S41088x37).1
          Cert.Pre_no_bias_and_no_tie.Gen.slices_S41088x37_S41088x36_0_1))
      (constantI Cert.Pre_no_bias_and_no_tie.S_ 1 1#1) Cert.Pre_no_bias_and_no_tie.Gen.reducesTo_S41088x36_S_d0_1 Cert.Pre_no_bias_and_no_tie.Gen.h_S_ := by
  dsimp only [Cert.Pre_no_bias_and_no_tie.fn, Cert.Pre_no_bias_and_no_tie.fn_part1]
  rfl

/-- In every row the first 37 amplitudes decrease strictly. -/
theorem strict_of (h : (Cert.Pre_no_bias_and_no_tie.fn (F := Ideal) x u b v d).2.2 = fun _ => 1#1) (r : Fin 41088) (j : Fin 36) :
    amp (row x r) (order (fun k : Fin 361 => amp (row x r) k) ⟨j.val + 1, by omega⟩) < amp (row x r) (order (fun k : Fin 361 => amp (row x r) k) ⟨j.val, by omega⟩) := by
  rw [fn_eq] at h
  have h := Host.reduce_andi_all _ _ _ _ _ (congrFun h ix0) (ix2 r j)
  have e0 : Cert.Pre_no_bias_and_no_tie.lit0 = lit0 := funext pre_lit0
  have e1 : Cert.Pre_no_bias_and_no_tie.lit1 = lit1 := funext pre_lit1
  rw [e0, e1] at h
  have ha : ∀ f : Fin 361, amps (spectrum lit0 x) (spectrum lit1 x) (ix2 r f) = amp (row x r) f := fun f => by
    rw [amps_at, re_at, im_at, amp, power]
  generalize amps (spectrum lit0 x) (spectrum lit1 x) = a at h ha
  have hrow : (fun k => a (ix2 r k)) = fun k : Fin 361 => amp (row x r) k := funext ha
  have hv := values_at (K := 37) a Cert.Pre_no_bias_and_no_tie.Gen.sliceFits_S41088x361_S41088x37 (by norm_num) r
  rw [hrow] at hv
  generalize (Host.topK (s := S41088x361) Cert.Pre_no_bias_and_no_tie.S41088x37 1 (FloatOps.cmpfTotal (F := Ideal) (φ := .f32) .gt) a Cert.Pre_no_bias_and_no_tie.Gen.sliceFits_S41088x361_S41088x37).1 = w at h hv
  pointwise at h
  have h := of_decide_eq_true ((bool_word _).mp h)
  rw [hv, hv, ha, ha] at h
  rw [show (⟨j.val + 1, by omega⟩ : Fin 361) = Fin.castLE (by norm_num) (⟨1 + j.val, by omega⟩ : Fin 37) from Fin.ext (Nat.add_comm _ _)]
  exact h

/-- So the sort's places rank the row. -/
theorem sorted_of (h : (Cert.Pre_no_bias_and_no_tie.fn (F := Ideal) x u b v d).2.2 = fun _ => 1#1) (r : Fin 41088) : Sorted (row x r) (rank (row x r)) := by
  have hs := strict_of x u b v d h r
  have hy : ∀ f : Fin 361, amp (row x r) (order (fun k : Fin 361 => amp (row x r) k) (place (fun k : Fin 361 => amp (row x r) k) f)) = amp (row x r) f :=
    fun f => congrArg (fun k : Fin 361 => amp (row x r) k) (order_place _ f)
  generalize row x r = y at hs hy ⊢
  refine ⟨fun f => (place (fun k : Fin 361 => amp y k) f).isLt, fun f g e => ?_, fun i hi => ⟨order (fun k : Fin 361 => amp y k) ⟨i, hi⟩, ?_⟩, fun f g hfg => ?_, fun f g hf hfg => ?_⟩
  · rw [← order_place (fun k : Fin 361 => amp y k) f, ← order_place (fun k : Fin 361 => amp y k) g, Fin.ext e]
  · exact congrArg Fin.val (place_order (fun k : Fin 361 => amp y k) ⟨i, hi⟩)
  · rw [← hy f, ← hy g]
    exact order_anti (fun k : Fin 361 => amp y k) hfg
  · rw [← hy f, ← hy g]
    refine lt_of_le_of_lt ?_ (hs ⟨_, hf⟩)
    have hle : rank y f + 1 ≤ rank y g := hfg
    rcases hle.eq_or_lt with e | hlt
    · exact le_of_eq (congrArg (fun k : Fin 361 => amp y (order (fun k : Fin 361 => amp y k) k)) (Fin.ext e.symm))
    · exact order_anti (fun k : Fin 361 => amp y k) (i := ⟨rank y f + 1, by have := (place (fun k : Fin 361 => amp y k) g).isLt; exact lt_trans hlt this⟩) hlt

end Cert.Predicate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_bias_and_no_tie
public import proofs.«01_k».proof.Proof.Gen.KernelIdeal.Value
public import proofs.«01_k».proof.Proof.Gen.ReferenceIdeal.Run
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Under the precondition the two results are the same array. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Pre_KernelIdeal_no_bias_and_no_tie (hPre_no_bias_and_no_tie := Cert.Pre_no_bias_and_no_tie.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v91 (F := Ideal) m' c = (Cert.KernelIdeal.Gen.dats m 0 c).arrAt 7 Cert.KernelIdeal.cfg0.N := by
  have hp := hp c
  refine (Cert.ReferenceIdeal.Rows.result_eq m' c).trans ?_
  rw [h0, h1, h2, h3, h4]
  funext i
  obtain ⟨r, l, rfl⟩ : ∃ (r : Fin 41088) (l : Fin 720), i = ix2 r l := ⟨i 0, i 1, by funext k; fin_cases k <;> rfl⟩
  refine (Cert.ReferenceIdeal.Rows.out_eq _ _ _ _ _ (Cert.Predicate.bias_of _ _ _ _ _ hp.1) (Cert.Predicate.bias2_of _ _ _ _ _ hp.2.1) r l).trans ?_
  rw [← Cert.Spectrum.row_eq _ _ _ _ (Cert.Predicate.sorted_of _ _ _ _ _ hp.2.2 r) l]
  exact (Cert.KernelIdeal.Operands.out_eq m c r l).symm

/-- The reference runs and keeps its arguments; it has no semaphore. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_no_bias_and_no_tie.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  fun m ρ m' ρ' hp ha => ⟨fun c => (Cert.KernelIdeal.Gen.dats m 0 c).arrAt 7 Cert.KernelIdeal.cfg0.N,
    Cert.KernelIdeal.Value.run_blocks m ρ,
    (θ_run Cert.ReferenceIdeal.defs _ _).mono (fun _ h c => ⟨(h c).1.trans
        (value m m' c hp (ha c).1 (ha c).2.1 (ha c).2.2.1 (ha c).2.2.2.1 (ha c).2.2.2.2), (h c).2⟩)
      (Cert.ReferenceIdeal.Value.run (F := Ideal) m' ρ')⟩⟩

end Cert.Proof

end
